-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "exp2_scale" .f32 0x3B66D4CA#32 (((32768 / 13421773) * (Real.log 2)⁻¹ : ℝ) : EReal)
  ∧ IdealRules.named_const.Statement Cert.KernelIdeal.κ "pos_scale" .f32 0x3B200000#32 ((32768 / 13421773 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048x8192 : Shape := ⟨2, ![2048, 8192]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S4096x128 : Shape := ⟨2, ![4096, 128]⟩
abbrev S2048x2048 : Shape := ⟨2, ![2048, 2048]⟩
abbrev S2048x128 : Shape := ⟨2, ![2048, 128]⟩
abbrev S2048x1024 : Shape := ⟨2, ![2048, 1024]⟩
abbrev S1024x2048 : Shape := ⟨2, ![1024, 2048]⟩
abbrev S1024x128 : Shape := ⟨2, ![1024, 128]⟩
abbrev S4x1024x128 : Shape := ⟨3, ![4, 1024, 128]⟩
abbrev S4x8x1024 : Shape := ⟨3, ![4, 8, 1024]⟩
abbrev S1024x1024 : Shape := ⟨2, ![1024, 1024]⟩
abbrev S1024x1 : Shape := ⟨2, ![1024, 1]⟩
abbrev S1x1024 : Shape := ⟨2, ![1, 1024]⟩
abbrev S1x1024x128 : Shape := ⟨3, ![1, 1024, 128]⟩
abbrev S8x1024 : Shape := ⟨2, ![8, 1024]⟩
abbrev S1x8x1024 : Shape := ⟨3, ![1, 8, 1024]⟩
abbrev S1x1 : Shape := ⟨2, ![1, 1]⟩
abbrev S4x1024 : Shape := ⟨2, ![4, 1024]⟩
abbrev S1024 : Shape := ⟨1, ![1024]⟩
abbrev S1 : Shape := ⟨1, ![1]⟩
abbrev S_ : Shape := ⟨0, ![]⟩

abbrev nBuf : Space → Nat
  | .hbm => 8
  | .vmem => 23
  | .smem => 0
  | _ => 0

abbrev bufTy : (tb : Table) → Fin (tcTables nBuf tb) → BufTy
  | .hbm, ⟨0, _⟩ => ⟨S8192x2048, .f32⟩
  | .hbm, ⟨1, _⟩ => ⟨S2048x8192, .fp8e4m3⟩
  | .hbm, ⟨2, _⟩ => ⟨S4096x128, .f32⟩
  | .hbm, ⟨3, _⟩ => ⟨S4096x128, .f32⟩
  | .hbm, ⟨4, _⟩ => ⟨S4x1024x128, .f32⟩
  | .hbm, ⟨5, _⟩ => ⟨S4x8x1024, .f32⟩
  | .hbm, ⟨6, _⟩ => ⟨S1x1, .f32⟩
  | .hbm, ⟨7, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S2048x256, .fp8e4m3⟩
  | .local _ .vmem, ⟨3, _⟩ => ⟨S2048x256, .fp8e4m3⟩
  | .local _ .vmem, ⟨4, _⟩ => ⟨S2048x2048, .fp8e4m3⟩
  | .local _ .vmem, ⟨5, _⟩ => ⟨S2048x2048, .fp8e4m3⟩
  | .local _ .vmem, ⟨6, _⟩ => ⟨S2048x2048, .fp8e4m3⟩
  | .local _ .vmem, ⟨7, _⟩ => ⟨S2048x2048, .fp8e4m3⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x1024, .fp8e4m3⟩
  | .local _ .vmem, ⟨13, _⟩ => ⟨S2048x1024, .fp8e4m3⟩
  | .local _ .vmem, ⟨14, _⟩ => ⟨S2048x1024, .fp8e4m3⟩
  | .local _ .vmem, ⟨15, _⟩ => ⟨S2048x1024, .fp8e4m3⟩
  | .local _ .vmem, ⟨16, _⟩ => ⟨S4x1024x128, .f32⟩
  | .local _ .vmem, ⟨17, _⟩ => ⟨S4x8x1024, .f32⟩
  | .local _ .vmem, ⟨18, _⟩ => ⟨S4096x128, .f32⟩
  | .local _ .vmem, ⟨19, _⟩ => ⟨S4x1024x128, .f32⟩
  | .local _ .vmem, ⟨20, _⟩ => ⟨S4096x128, .f32⟩
  | .local _ .vmem, ⟨21, _⟩ => ⟨S4x8x1024, .f32⟩
  | .local _ .vmem, ⟨22, _⟩ => ⟨S1x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc3_sem0_0 : DmaSem sig := 18
abbrev cc3_sem1_0 : DmaSem sig := 19
abbrev cc3_sem2_0 : DmaSem sig := 20
abbrev cc3_sem3_0 : DmaSem sig := 21
abbrev cc3_sem4_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 2], ![false, false]⟩

def k1_cond1 (i : grid1.Coords) : BitVec 1 :=
  let arg1 : BitVec 32 := BitVec.ofNat 32 (i 1).val
  let c0_i32_4 : BitVec 32 := 0#32
  let v41 : BitVec 1 := Scalar.cmpi .eq arg1 c0_i32_4
  let v42 : BitVec 32 := Scalar.extui v41
  let c0_i32_5 : BitVec 32 := 0#32
  let v43 : BitVec 1 := Scalar.cmpi .ne v42 c0_i32_5
  v43

def k1_cond2 (i : grid1.Coords) : BitVec 1 :=
  let arg1 : BitVec 32 := BitVec.ofNat 32 (i 1).val
  let c0_i32_6 : BitVec 32 := 0#32
  let v44 : BitVec 1 := Scalar.cmpi .ne arg1 c0_i32_6
  let v45 : BitVec 32 := Scalar.extui v44
  let c0_i32_7 : BitVec 32 := 0#32
  let v46 : BitVec 1 := Scalar.cmpi .ne v45 c0_i32_7
  v46

def k1_cond4 (i : grid1.Coords) : BitVec 1 :=
  let arg1 : BitVec 32 := BitVec.ofNat 32 (i 1).val
  let c0_i32_21 : BitVec 32 := 0#32
  let v108 : BitVec 1 := Scalar.cmpi .eq arg1 c0_i32_21
  let v109 : BitVec 32 := Scalar.extui v108
  let c0_i32_22 : BitVec 32 := 0#32
  let v110 : BitVec 1 := Scalar.cmpi .ne v109 c0_i32_22
  v110

def k1_cond5 (i : grid1.Coords) : BitVec 1 :=
  let arg1 : BitVec 32 := BitVec.ofNat 32 (i 1).val
  let c0_i32_23 : BitVec 32 := 0#32
  let v111 : BitVec 1 := Scalar.cmpi .ne arg1 c0_i32_23
  let v112 : BitVec 32 := Scalar.extui v111
  let c0_i32_24 : BitVec 32 := 0#32
  let v113 : BitVec 1 := Scalar.cmpi .ne v112 c0_i32_24
  v113

def k1_cond3 (i : grid1.Coords) : BitVec 1 :=
  let arg1 : BitVec 32 := BitVec.ofNat 32 (i 1).val
  let arg0 : BitVec 32 := BitVec.ofNat 32 (i 0).val
  let c2048_i32 : BitVec 32 := 2048#32
  let v39 : BitVec 32 := Scalar.muli arg0 c2048_i32
  let c0_i32 : BitVec 32 := 0#32
  let v40 : BitVec 32 := Scalar.addi v39 c0_i32
  let c0_i32_9 : BitVec 32 := 0#32
  let v48 : BitVec 1 := Scalar.cmpi .sgt v40 c0_i32_9
  let v49 : BitVec 32 := Scalar.extui v48
  let c0_i32_10 : BitVec 32 := 0#32
  let v50 : BitVec 1 := Scalar.cmpi .slt v40 c0_i32_10
  let v51 : BitVec 32 := Scalar.extui v50
  let v52 : BitVec 32 := Scalar.subi v49 v51
  let c2048_i32_8 : BitVec 32 := 2048#32
  let c0_i32_11 : BitVec 32 := 0#32
  let v53 : BitVec 1 := Scalar.cmpi .sgt c2048_i32_8 c0_i32_11
  let v54 : BitVec 32 := Scalar.extui v53
  let c0_i32_12 : BitVec 32 := 0#32
  let v55 : BitVec 1 := Scalar.cmpi .slt c2048_i32_8 c0_i32_12
  let v56 : BitVec 32 := Scalar.extui v55
  let v57 : BitVec 32 := Scalar.subi v54 v56
  let v58 : BitVec 1 := Scalar.cmpi .ne v52 v57
  let v59 : BitVec 32 := Scalar.remsi v40 c2048_i32_8
  let c0_i32_13 : BitVec 32 := 0#32
  let v60 : BitVec 1 := Scalar.cmpi .ne v59 c0_i32_13
  let v61 : BitVec 1 := Scalar.andi v58 v60
  let v47 : BitVec 32 := Scalar.divsi v40 c2048_i32_8
  let c1_i32 : BitVec 32 := 1#32
  let v62 : BitVec 32 := Scalar.subi v47 c1_i32
  let v63 : BitVec 32 := Scalar.select v61 v62 v47
  let v64 : BitVec 1 := Scalar.cmpi .eq arg1 v63
  let v65 : BitVec 32 := Scalar.extui v64
  let c0_i32_14 : BitVec 32 := 0#32
  let v66 : BitVec 1 := Scalar.cmpi .ne v65 c0_i32_14
  v66

def k1_cond6 (i : grid1.Coords) : BitVec 1 :=
  let arg1 : BitVec 32 := BitVec.ofNat 32 (i 1).val
  let arg0 : BitVec 32 := BitVec.ofNat 32 (i 0).val
  let c2048_i32_20 : BitVec 32 := 2048#32
  let v106 : BitVec 32 := Scalar.muli arg0 c2048_i32_20
  let c1024_i32 : BitVec 32 := 1024#32
  let v107 : BitVec 32 := Scalar.addi v106 c1024_i32
  let c0_i32_26 : BitVec 32 := 0#32
  let v115 : BitVec 1 := Scalar.cmpi .sgt v107 c0_i32_26
  let v116 : BitVec 32 := Scalar.extui v115
  let c0_i32_27 : BitVec 32 := 0#32
  let v117 : BitVec 1 := Scalar.cmpi .slt v107 c0_i32_27
  let v118 : BitVec 32 := Scalar.extui v117
  let v119 : BitVec 32 := Scalar.subi v116 v118
  let c2048_i32_25 : BitVec 32 := 2048#32
  let c0_i32_28 : BitVec 32 := 0#32
  let v120 : BitVec 1 := Scalar.cmpi .sgt c2048_i32_25 c0_i32_28
  let v121 : BitVec 32 := Scalar.extui v120
  let c0_i32_29 : BitVec 32 := 0#32
  let v122 : BitVec 1 := Scalar.cmpi .slt c2048_i32_25 c0_i32_29
  let v123 : BitVec 32 := Scalar.extui v122
  let v124 : BitVec 32 := Scalar.subi v121 v123
  let v125 : BitVec 1 := Scalar.cmpi .ne v119 v124
  let v126 : BitVec 32 := Scalar.remsi v107 c2048_i32_25
  let c0_i32_30 : BitVec 32 := 0#32
  let v127 : BitVec 1 := Scalar.cmpi .ne v126 c0_i32_30
  let v128 : BitVec 1 := Scalar.andi v125 v127
  let v114 : BitVec 32 := Scalar.divsi v107 c2048_i32_25
  let c1_i32_31 : BitVec 32 := 1#32
  let v129 : BitVec 32 := Scalar.subi v114 c1_i32_31
  let v130 : BitVec 32 := Scalar.select v128 v129 v114
  let v131 : BitVec 1 := Scalar.cmpi .eq arg1 v130
  let v132 : BitVec 32 := Scalar.extui v131
  let c0_i32_32 : BitVec 32 := 0#32
  let v133 : BitVec 1 := Scalar.cmpi .ne v132 c0_i32_32
  v133

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x2048 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![10], ![false]⟩

def k2_cond2 (i : grid2.Coords) : BitVec 1 :=
  let c0_i32_2 : BitVec 32 := 0#32
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c4_i32 : BitVec 32 := 4#32
  let v5 : BitVec 1 := Scalar.cmpi .sge v4 c4_i32
  let v6 : BitVec 32 := Scalar.extui v5
  let v7 : BitVec 32 := Scalar.addi c0_i32_2 v6
  let c7_i32 : BitVec 32 := 7#32
  let v8 : BitVec 1 := Scalar.cmpi .sge v4 c7_i32
  let v9 : BitVec 32 := Scalar.extui v8
  let v10 : BitVec 32 := Scalar.addi v7 v9
  let c9_i32 : BitVec 32 := 9#32
  let v11 : BitVec 1 := Scalar.cmpi .sge v4 c9_i32
  let v12 : BitVec 32 := Scalar.extui v11
  let v13 : BitVec 32 := Scalar.addi v10 v12
  let c4_i32_3 : BitVec 32 := 4#32
  let v14 : BitVec 32 := Scalar.muli v13 c4_i32_3
  let c1_i32_4 : BitVec 32 := 1#32
  let v15 : BitVec 32 := Scalar.subi v13 c1_i32_4
  let v16 : BitVec 32 := Scalar.muli v13 v15
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c2_i32 : BitVec 32 := 2#32
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi v16 c2_i32
  let c0_i32_9 : BitVec 32 := 0#32
  let v30 : BitVec 1 := Scalar.cmpi .ne v29 c0_i32_9
  let v31 : BitVec 1 := Scalar.andi v28 v30
  let v17 : BitVec 32 := Scalar.divsi v16 c2_i32
  let c1_i32_10 : BitVec 32 := 1#32
  let v32 : BitVec 32 := Scalar.subi v17 c1_i32_10
  let v33 : BitVec 32 := Scalar.select v31 v32 v17
  let v34 : BitVec 32 := Scalar.subi v14 v33
  let v35 : BitVec 32 := Scalar.subi v4 v34
  let v36 : BitVec 32 := Scalar.addi v35 v13
  let v45 : BitVec 1 := Scalar.cmpi .eq v13 v36
  let v46 : BitVec 32 := Scalar.extui v45
  let c0_i32_15 : BitVec 32 := 0#32
  let v47 : BitVec 1 := Scalar.cmpi .ne v46 c0_i32_15
  v47

def k2_off1 (i : grid2.Coords) : Fin 3 → Nat :=
  let c0_i32_2 : BitVec 32 := 0#32
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c4_i32 : BitVec 32 := 4#32
  let v5 : BitVec 1 := Scalar.cmpi .sge v4 c4_i32
  let v6 : BitVec 32 := Scalar.extui v5
  let v7 : BitVec 32 := Scalar.addi c0_i32_2 v6
  let c7_i32 : BitVec 32 := 7#32
  let v8 : BitVec 1 := Scalar.cmpi .sge v4 c7_i32
  let v9 : BitVec 32 := Scalar.extui v8
  let v10 : BitVec 32 := Scalar.addi v7 v9
  let c9_i32 : BitVec 32 := 9#32
  let v11 : BitVec 1 := Scalar.cmpi .sge v4 c9_i32
  let v12 : BitVec 32 := Scalar.extui v11
  let v13 : BitVec 32 := Scalar.addi v10 v12
  let v73 : Index := Scalar.indexCast v13
  let c0_18 : Index := 0#32
  let c0_19 : Index := 0#32
  ![v73.toNat, 0, 0]
def k2_cond3 (i : grid2.Coords) : BitVec 1 :=
  let c0_i32_2 : BitVec 32 := 0#32
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c4_i32 : BitVec 32 := 4#32
  let v5 : BitVec 1 := Scalar.cmpi .sge v4 c4_i32
  let v6 : BitVec 32 := Scalar.extui v5
  let v7 : BitVec 32 := Scalar.addi c0_i32_2 v6
  let c7_i32 : BitVec 32 := 7#32
  let v8 : BitVec 1 := Scalar.cmpi .sge v4 c7_i32
  let v9 : BitVec 32 := Scalar.extui v8
  let v10 : BitVec 32 := Scalar.addi v7 v9
  let c9_i32 : BitVec 32 := 9#32
  let v11 : BitVec 1 := Scalar.cmpi .sge v4 c9_i32
  let v12 : BitVec 32 := Scalar.extui v11
  let v13 : BitVec 32 := Scalar.addi v10 v12
  let c4_i32_3 : BitVec 32 := 4#32
  let v14 : BitVec 32 := Scalar.muli v13 c4_i32_3
  let c1_i32_4 : BitVec 32 := 1#32
  let v15 : BitVec 32 := Scalar.subi v13 c1_i32_4
  let v16 : BitVec 32 := Scalar.muli v13 v15
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c2_i32 : BitVec 32 := 2#32
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi v16 c2_i32
  let c0_i32_9 : BitVec 32 := 0#32
  let v30 : BitVec 1 := Scalar.cmpi .ne v29 c0_i32_9
  let v31 : BitVec 1 := Scalar.andi v28 v30
  let v17 : BitVec 32 := Scalar.divsi v16 c2_i32
  let c1_i32_10 : BitVec 32 := 1#32
  let v32 : BitVec 32 := Scalar.subi v17 c1_i32_10
  let v33 : BitVec 32 := Scalar.select v31 v32 v17
  let v34 : BitVec 32 := Scalar.subi v14 v33
  let v35 : BitVec 32 := Scalar.subi v4 v34
  let v36 : BitVec 32 := Scalar.addi v35 v13
  let v48 : BitVec 1 := Scalar.cmpi .ne v13 v36
  let v49 : BitVec 32 := Scalar.extui v48
  let c0_i32_16 : BitVec 32 := 0#32
  let v50 : BitVec 1 := Scalar.cmpi .ne v49 c0_i32_16
  v50

def k2_off2 (i : grid2.Coords) : Fin 3 → Nat :=
  let c0_i32_2 : BitVec 32 := 0#32
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c4_i32 : BitVec 32 := 4#32
  let v5 : BitVec 1 := Scalar.cmpi .sge v4 c4_i32
  let v6 : BitVec 32 := Scalar.extui v5
  let v7 : BitVec 32 := Scalar.addi c0_i32_2 v6
  let c7_i32 : BitVec 32 := 7#32
  let v8 : BitVec 1 := Scalar.cmpi .sge v4 c7_i32
  let v9 : BitVec 32 := Scalar.extui v8
  let v10 : BitVec 32 := Scalar.addi v7 v9
  let c9_i32 : BitVec 32 := 9#32
  let v11 : BitVec 1 := Scalar.cmpi .sge v4 c9_i32
  let v12 : BitVec 32 := Scalar.extui v11
  let v13 : BitVec 32 := Scalar.addi v10 v12
  let v66 : Index := Scalar.indexCast v13
  let c0_17 : Index := 0#32
  let c0_18 : Index := 0#32
  ![v66.toNat, 0, 0]
def k2_off3 (i : grid2.Coords) : Fin 3 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c0_i32_2 : BitVec 32 := 0#32
  let c4_i32 : BitVec 32 := 4#32
  let v5 : BitVec 1 := Scalar.cmpi .sge v4 c4_i32
  let v6 : BitVec 32 := Scalar.extui v5
  let v7 : BitVec 32 := Scalar.addi c0_i32_2 v6
  let c7_i32 : BitVec 32 := 7#32
  let v8 : BitVec 1 := Scalar.cmpi .sge v4 c7_i32
  let v9 : BitVec 32 := Scalar.extui v8
  let v10 : BitVec 32 := Scalar.addi v7 v9
  let c9_i32 : BitVec 32 := 9#32
  let v11 : BitVec 1 := Scalar.cmpi .sge v4 c9_i32
  let v12 : BitVec 32 := Scalar.extui v11
  let v13 : BitVec 32 := Scalar.addi v10 v12
  let c4_i32_3 : BitVec 32 := 4#32
  let v14 : BitVec 32 := Scalar.muli v13 c4_i32_3
  let c1_i32_4 : BitVec 32 := 1#32
  let v15 : BitVec 32 := Scalar.subi v13 c1_i32_4
  let v16 : BitVec 32 := Scalar.muli v13 v15
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c2_i32 : BitVec 32 := 2#32
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi v16 c2_i32
  let c0_i32_9 : BitVec 32 := 0#32
  let v30 : BitVec 1 := Scalar.cmpi .ne v29 c0_i32_9
  let v31 : BitVec 1 := Scalar.andi v28 v30
  let v17 : BitVec 32 := Scalar.divsi v16 c2_i32
  let c1_i32_10 : BitVec 32 := 1#32
  let v32 : BitVec 32 := Scalar.subi v17 c1_i32_10
  let v33 : BitVec 32 := Scalar.select v31 v32 v17
  let v34 : BitVec 32 := Scalar.subi v14 v33
  let v35 : BitVec 32 := Scalar.subi v4 v34
  let v36 : BitVec 32 := Scalar.addi v35 v13
  let v328 : Index := Scalar.indexCast v36
  let c0_21 : Index := 0#32
  let c0_22 : Index := 0#32
  ![v328.toNat, 0, 0]
def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc2_transform_0 (i : grid2.Coords) : Fin 2 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .sge v1 c4_i32
  let v3 : BitVec 32 := Scalar.extui v2
  let c0_i32_0 : BitVec 32 := 0#32
  let v4 : BitVec 32 := Scalar.addi c0_i32_0 v3
  let c7_i32 : BitVec 32 := 7#32
  let v5 : BitVec 1 := Scalar.cmpi .sge v1 c7_i32
  let v6 : BitVec 32 := Scalar.extui v5
  let v7 : BitVec 32 := Scalar.addi v4 v6
  let c9_i32 : BitVec 32 := 9#32
  let v8 : BitVec 1 := Scalar.cmpi .sge v1 c9_i32
  let v9 : BitVec 32 := Scalar.extui v8
  let v10 : BitVec 32 := Scalar.addi v7 v9
  let c4_i32_1 : BitVec 32 := 4#32
  let v11 : BitVec 32 := Scalar.muli v10 c4_i32_1
  let c1_i32_2 : BitVec 32 := 1#32
  let v12 : BitVec 32 := Scalar.subi v10 c1_i32_2
  let v13 : BitVec 32 := Scalar.muli v10 v12
  let c2_i32 : BitVec 32 := 2#32
  let v14 : BitVec 32 := Scalar.divsi v13 c2_i32
  let c0_i32_3 : BitVec 32 := 0#32
  let v15 : BitVec 1 := Scalar.cmpi .sgt v13 c0_i32_3
  let v16 : BitVec 32 := Scalar.extui v15
  let c0_i32_4 : BitVec 32 := 0#32
  let v17 : BitVec 1 := Scalar.cmpi .slt v13 c0_i32_4
  let v18 : BitVec 32 := Scalar.extui v17
  let v19 : BitVec 32 := Scalar.subi v16 v18
  let c0_i32_5 : BitVec 32 := 0#32
  let v20 : BitVec 1 := Scalar.cmpi .sgt c2_i32 c0_i32_5
  let v21 : BitVec 32 := Scalar.extui v20
  let c0_i32_6 : BitVec 32 := 0#32
  let v22 : BitVec 1 := Scalar.cmpi .slt c2_i32 c0_i32_6
  let v23 : BitVec 32 := Scalar.extui v22
  let v24 : BitVec 32 := Scalar.subi v21 v23
  let v25 : BitVec 1 := Scalar.cmpi .ne v19 v24
  let v26 : BitVec 32 := Scalar.remsi v13 c2_i32
  let c0_i32_7 : BitVec 32 := 0#32
  let v27 : BitVec 1 := Scalar.cmpi .ne v26 c0_i32_7
  let v28 : BitVec 1 := Scalar.andi v25 v27
  let c1_i32_8 : BitVec 32 := 1#32
  let v29 : BitVec 32 := Scalar.subi v14 c1_i32_8
  let v30 : BitVec 32 := Scalar.select v28 v29 v14
  let v31 : BitVec 32 := Scalar.subi v11 v30
  let v32 : BitVec 32 := Scalar.subi v1 v31
  let v33 : BitVec 32 := Scalar.addi v32 v10
  let c0_i32_9 : BitVec 32 := 0#32
  let c0_i32_10 : BitVec 32 := 0#32
  ![c0_i32_9.toNat, v10.toNat]

def cc2_transform_1 (i : grid2.Coords) : Fin 2 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .sge v1 c4_i32
  let v3 : BitVec 32 := Scalar.extui v2
  let c0_i32_0 : BitVec 32 := 0#32
  let v4 : BitVec 32 := Scalar.addi c0_i32_0 v3
  let c7_i32 : BitVec 32 := 7#32
  let v5 : BitVec 1 := Scalar.cmpi .sge v1 c7_i32
  let v6 : BitVec 32 := Scalar.extui v5
  let v7 : BitVec 32 := Scalar.addi v4 v6
  let c9_i32 : BitVec 32 := 9#32
  let v8 : BitVec 1 := Scalar.cmpi .sge v1 c9_i32
  let v9 : BitVec 32 := Scalar.extui v8
  let v10 : BitVec 32 := Scalar.addi v7 v9
  let c4_i32_1 : BitVec 32 := 4#32
  let v11 : BitVec 32 := Scalar.muli v10 c4_i32_1
  let c1_i32_2 : BitVec 32 := 1#32
  let v12 : BitVec 32 := Scalar.subi v10 c1_i32_2
  let v13 : BitVec 32 := Scalar.muli v10 v12
  let c2_i32 : BitVec 32 := 2#32
  let v14 : BitVec 32 := Scalar.divsi v13 c2_i32
  let c0_i32_3 : BitVec 32 := 0#32
  let v15 : BitVec 1 := Scalar.cmpi .sgt v13 c0_i32_3
  let v16 : BitVec 32 := Scalar.extui v15
  let c0_i32_4 : BitVec 32 := 0#32
  let v17 : BitVec 1 := Scalar.cmpi .slt v13 c0_i32_4
  let v18 : BitVec 32 := Scalar.extui v17
  let v19 : BitVec 32 := Scalar.subi v16 v18
  let c0_i32_5 : BitVec 32 := 0#32
  let v20 : BitVec 1 := Scalar.cmpi .sgt c2_i32 c0_i32_5
  let v21 : BitVec 32 := Scalar.extui v20
  let c0_i32_6 : BitVec 32 := 0#32
  let v22 : BitVec 1 := Scalar.cmpi .slt c2_i32 c0_i32_6
  let v23 : BitVec 32 := Scalar.extui v22
  let v24 : BitVec 32 := Scalar.subi v21 v23
  let v25 : BitVec 1 := Scalar.cmpi .ne v19 v24
  let v26 : BitVec 32 := Scalar.remsi v13 c2_i32
  let c0_i32_7 : BitVec 32 := 0#32
  let v27 : BitVec 1 := Scalar.cmpi .ne v26 c0_i32_7
  let v28 : BitVec 1 := Scalar.andi v25 v27
  let c1_i32_8 : BitVec 32 := 1#32
  let v29 : BitVec 32 := Scalar.subi v14 c1_i32_8
  let v30 : BitVec 32 := Scalar.select v28 v29 v14
  let v31 : BitVec 32 := Scalar.subi v11 v30
  let v32 : BitVec 32 := Scalar.subi v1 v31
  let v33 : BitVec 32 := Scalar.addi v32 v10
  let c0_i32_9 : BitVec 32 := 0#32
  let c0_i32_10 : BitVec 32 := 0#32
  ![c0_i32_9.toNat, v33.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 2 → Memref sig .tc .vmem S2048x1024 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1024 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x1024x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x8x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := .none

abbrev stage3_0 : Fin 1 → Memref sig .tc .vmem S4096x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S4x1024x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S4096x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S4x8x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
-- ==== KernelIdeal.lean ====
variable {F : FTy → Type} [FloatOps F] [Named F]
def κ : String → Option EReal := fun
  | "exp2_scale" => some (((32768 / 13421773) * (Real.log 2)⁻¹ : ℝ) : EReal)
  | "pos_scale" => some ((32768 / 13421773 : ℝ) : EReal)
  | _ => none
-- ==== ReferenceIdeal.lean ====
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩
abbrev S8192x8192 : Shape := ⟨2, ![8192, 8192]⟩
abbrev S8192x2 : Shape := ⟨2, ![8192, 2]⟩
abbrev S4096 : Shape := ⟨1, ![4096]⟩
abbrev S4096x1 : Shape := ⟨2, ![4096, 1]⟩
abbrev S4096x2 : Shape := ⟨2, ![4096, 2]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x2048, .f32⟩
  | .hbm, ⟨10, _⟩ => ⟨S8192x2048, .f32⟩
  | .hbm, ⟨11, _⟩ => ⟨S2048x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192, .i32⟩
  | .hbm, ⟨18, _⟩ => ⟨S_, .f32⟩
  | .hbm, ⟨19, _⟩ => ⟨S8192, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192x1, .i32⟩
  | .hbm, ⟨36, _⟩ => ⟨S8192x2, .i32⟩
  | .hbm, ⟨37, _⟩ => ⟨S8192, .f32⟩
  | .hbm, ⟨38, _⟩ => ⟨S8192, .f32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S4096x1, .i32⟩
  | .hbm, ⟨59, _⟩ => ⟨S4096x2, .i32⟩
  | .hbm, ⟨60, _⟩ => ⟨S4096, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.KI.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.VecWindow
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
-- the buffers' contents when the region is entered
variable (V : (c : Dev nD) → (b : Ref sig .tc) → Buf (Elt F) ((c : Thread nD τ).loc b))

/-- The block of window `w` at point `t`, as the region finds its array. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Input window 0 holds its block at every point, whatever proof data leave it in place. -/
theorem holds0_0 {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

abbrev r0in : Rect S256x2048 := Rect.unit (s := S256x2048) ![0, 0] S256x2048.size inb_S256x2048_S256x2048_0_0
abbrev r0out : Rect S2048x256 := Rect.unit (s := S2048x256) ![0, 0] S2048x256.size inb_S2048x256_S2048x256_0_0

/-- The columns of normalised rows one point of region 0 stores. -/
def out0 (x : Vec F S256x2048 .f32) : Vec F S2048x256 .fp8e4m3 :=
  View.canon [⟨r0out, k0_pay1 (View.ld x r0in)⟩]

theorem cover0 (p : Vec F S2048x256 .fp8e4m3) (y : S2048x256.Idx) :
    ∃ pc ∈ ([⟨r0out, p⟩] : List (View.Piece (Elt F) S2048x256 .fp8e4m3)), y ∈ pc.1.set :=
  View.cover_of_tiled [⟨r0out, p⟩] S2048x256.size (by rfl) y

set_option maxHeartbeats 1000000 in
/-- The body of region 0 on any two whole staging buffers. -/
theorem kernel0 (c : Dev nD) (E : Set ℕ) (i : grid0.Coords) (arg1 : Memref sig .tc .vmem S256x2048 .f32) (harg1 : arg1.IsWhole)
    (arg2 : Memref sig .tc .vmem S2048x256 .fp8e4m3) (harg2 : arg2.IsWhole) (x0 : Vec F S256x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0 x0)) -∗ K ⟨⟩))
      ⊢ wp frame (wpE (defs₀ (F := F)) Variants.none c none) E (cc0__normalize_body i arg1 harg1 arg2 harg2) K := by
  simp only [cc0__normalize_body_eq_skeleton]; unfold cc0__normalize_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0 (iblk0 V c 0 t) := by dsimp only [dat0]
theorem before0_0 (c : Dev nD) (t : Fin cfg0.N) (d) : (dat0 V c).before 0 t d = iblk0 V c 0 t :=
  holds0_0 V (dat0 V c) (A_eq0 V c 0) (after0_0 V c) t d

/-- What the body of region 0 is run from at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it is run to. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem row0 (t : Fin cfg0.N) :
    defs₀ (F := F) .tc cfg0.body (cfg0.bodyArgs t (cfg0.slots t)) = bodyAt0 t := by
  unfold defs₀; rw [Defs.onTc_tc]

/-- Region 0's obligation at every point. -/
theorem obligation0 (c : Dev nD) : BodyObligation (dat0 (F := F) V c) (defs₀ (F := F)) Variants.none () Set.univ := fun t => by
  rw [bigSep_W0, bigSep_W0, row0]
  exact triple_restated (body0 V c t) rfl .rfl fun _ => .rfl

end

end Cert.KernelIdeal.Hand

end
-- ==== Proof.KI.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.VecWindow
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev r1lo : Rect S2048x128 := Rect.unit (s := S2048x128) ![0, 0] S1024x128.size inb_S2048x128_S1024x128_0_0
abbrev r1hi : Rect S2048x128 := Rect.unit (s := S2048x128) ![1024, 0] S1024x128.size inb_S2048x128_S1024x128_1024_0
abbrev r1a : Rect S2048x2048 := Rect.unit (s := S2048x2048) ![0, 0] S2048x1024.size inb_S2048x2048_S2048x1024_0_0
abbrev r1b : Rect S2048x2048 := Rect.unit (s := S2048x2048) ![0, 1024] S2048x1024.size inb_S2048x2048_S2048x1024_0_1024
abbrev r1w : Rect S2048x2048 := Rect.unit (s := S2048x2048) ![0, 0] S2048x2048.size inb_S2048x2048_S2048x2048_0_0

/-- Rows 0 to 1023 from `a`, rows 1024 to 2047 from `b`, over `x`. -/
def halves (x : Vec F S2048x128 .f32) (a b : Vec F S1024x128 .f32) : Vec F S2048x128 .f32 :=
  VecWindow.put (VecWindow.put x ![0, 0] S1024x128.size a) ![1024, 0] S1024x128.size b

theorem halves_top (x : Vec F S2048x128 .f32) (a b : Vec F S1024x128 .f32) : View.ld (halves x a b) r1lo = a := by
  show VecWindow.window (halves x a b) ![0, 0] S1024x128.size inb_S2048x128_S1024x128_0_0 = a
  unfold halves
  rw [VecWindow.window_put_of_disjoint _ _ _ _ _ _ _ 0 (by decide), VecWindow.window_put_same]
theorem halves_bottom (x : Vec F S2048x128 .f32) (a b : Vec F S1024x128 .f32) : View.ld (halves x a b) r1hi = b := by
  show VecWindow.window (halves x a b) ![1024, 0] S1024x128.size inb_S2048x128_S1024x128_1024_0 = b
  unfold halves
  rw [VecWindow.window_put_same]

/-- The two halves are all of the rows. -/
theorem halves_ext {x y : Vec F S2048x128 .f32} (h0 : View.ld x r1lo = View.ld y r1lo) (h1 : View.ld x r1hi = View.ld y r1hi) : x = y := by
  funext j
  by_cases hj : (j 0).val < 1024
  · have h : ∀ a, (![0, 0] : Fin 2 → ℕ) a ≤ (j a).val ∧ (j a).val < (![0, 0] : Fin 2 → ℕ) a + S1024x128.size a := fun a => by
      match a with
      | ⟨0, _⟩ => exact ⟨Nat.zero_le _, (by omega : (j 0).val < 0 + 1024)⟩
      | ⟨1, _⟩ => exact ⟨Nat.zero_le _, (by have : (j 1).val < 128 := (j 1).isLt; omega : (j 1).val < 0 + 128)⟩
    have e : r1lo.emb (Rect.unitLocal (s := S2048x128) (off := ![0, 0]) (size := S1024x128.size) j h) = j := funext fun a => Fin.ext (by
      show (![0, 0] : Fin 2 → ℕ) a + 1 * ((j a).val - (![0, 0] : Fin 2 → ℕ) a) = (j a).val
      have := (h a).1; omega)
    exact e ▸ congrFun h0 (Rect.unitLocal (s := S2048x128) (off := ![0, 0]) (size := S1024x128.size) j h)
  · have h : ∀ a, (![1024, 0] : Fin 2 → ℕ) a ≤ (j a).val ∧ (j a).val < (![1024, 0] : Fin 2 → ℕ) a + S1024x128.size a := fun a => by
      match a with
      | ⟨0, _⟩ => exact ⟨(by omega : 1024 ≤ (j 0).val), (by have : (j 0).val < 2048 := (j 0).isLt; omega : (j 0).val < 1024 + 1024)⟩
      | ⟨1, _⟩ => exact ⟨Nat.zero_le _, (by have : (j 1).val < 128 := (j 1).isLt; omega : (j 1).val < 0 + 128)⟩
    have e : r1hi.emb (Rect.unitLocal (s := S2048x128) (off := ![1024, 0]) (size := S1024x128.size) j h) = j := funext fun a => Fin.ext (by
      show (![1024, 0] : Fin 2 → ℕ) a + 1 * ((j a).val - (![1024, 0] : Fin 2 → ℕ) a) = (j a).val
      have := (h a).1; omega)
    exact e ▸ congrFun h1 (Rect.unitLocal (s := S2048x128) (off := ![1024, 0]) (size := S1024x128.size) j h)

/-- Contents no run depends on. -/
def blank : Vec F S2048x128 .f32 := fun _ => Scalar.ofBits .f32 0x00000000#32

/-- The lane sums of a point's two sub-blocks, as a first point of a row of the grid stores them. -/
def sums1 (x0 x1 : Vec F S2048x2048 .fp8e4m3) : Vec F S2048x128 .f32 :=
  halves blank (k1_pay4 (View.ld x0 r1a) (View.ld x1 r1w))
    (k1_pay11 (k1_pay8 (View.ld x0 r1b) (View.ld x1 r1w)) (k1_pay9 (View.ld x0 r1b) (View.ld x1 r1w)) (k1_pay10 (View.ld x0 r1b) (View.ld x1 r1w)))

/-- The same, added to what is there. -/
def addSums1 (x0 x1 : Vec F S2048x2048 .fp8e4m3) (p : Vec F S2048x128 .f32) : Vec F S2048x128 .f32 :=
  halves blank (k1_pay6 (k1_pay4 (View.ld x0 r1a) (View.ld x1 r1w)) (View.ld p r1lo))
    (k1_pay13 (k1_pay8 (View.ld x0 r1b) (View.ld x1 r1w)) (k1_pay9 (View.ld x0 r1b) (View.ld x1 r1w)) (k1_pay10 (View.ld x0 r1b) (View.ld x1 r1w)) (View.ld p r1hi))

/-- The cleared second accumulator. -/
def clear1 : Vec F S2048x128 .f32 := halves blank k1_pay5 k1_pay12

/-- The second accumulator with the lane sums of the positives added. -/
def addPos1 (i : grid1.Coords) (x0 x1 : Vec F S2048x2048 .fp8e4m3) (p : Vec F S2048x128 .f32) : Vec F S2048x128 .f32 :=
  halves blank
    (k1_pay1 (BitVec.ofNat 32 (i 1).val) (k1_pay3 (View.ld x0 r1a) (View.ld x1 r1w)) (Scalar.addi (Scalar.muli (BitVec.ofNat 32 (i 0).val) 2048#32) 0#32) (View.ld p r1lo))
    (k1_pay2 (BitVec.ofNat 32 (i 1).val) (k1_pay7 (View.ld x0 r1b) (View.ld x1 r1w)) (Scalar.addi (Scalar.muli (BitVec.ofNat 32 (i 0).val) 2048#32) 1024#32) (View.ld p r1hi))

theorem read_halves (v : View sig .tc .vmem S2048x128 .f32) (f : v.ty.Contents (Elt F)) (a b : Vec F S1024x128 .f32) (L : List (View.Piece (Elt F) S2048x128 .f32)) :
    v.read (Elt F) (v.writes (Elt F) f (⟨r1hi, b⟩ :: ⟨r1lo, a⟩ :: L)) = halves blank a b := by
  rw [View.read_writes_cons_put _ _ _ _ _ (rfl : (![1024, 0] : Fin 2 → ℕ) = ![1024, 0]), View.read_writes_cons_put _ _ _ _ _ (rfl : (![0, 0] : Fin 2 → ℕ) = ![0, 0])]
  exact halves_ext ((halves_top _ a b).trans (halves_top _ a b).symm) ((halves_bottom _ a b).trans (halves_bottom _ a b).symm)

theorem load_top (v : View sig .tc .vmem S2048x128 .f32) (f : v.ty.Contents (Elt F)) (a : Vec F S1024x128 .f32) (L : List (View.Piece (Elt F) S2048x128 .f32)) :
    v.readAt (Elt F) r1lo.toLoadRect (v.writes (Elt F) f (⟨r1lo, a⟩ :: L)) = a := by
  rw [View.readAt_unit v _ inb_S2048x128_S1024x128_0_0 rfl inb_S2048x128_S1024x128_0_0, View.read_writes_cons_put _ _ _ _ _ rfl, VecWindow.window_put_same]
theorem load_bottom (v : View sig .tc .vmem S2048x128 .f32) (f : v.ty.Contents (Elt F)) (a : Vec F S1024x128 .f32) (L : List (View.Piece (Elt F) S2048x128 .f32)) :
    v.readAt (Elt F) r1hi.toLoadRect (v.writes (Elt F) f (⟨r1hi, a⟩ :: L)) = a := by
  rw [View.readAt_unit v _ inb_S2048x128_S1024x128_1024_0 rfl inb_S2048x128_S1024x128_1024_0, View.read_writes_cons_put _ _ _ _ _ rfl, VecWindow.window_put_same]

theorem read_halves_twice (v : View sig .tc .vmem S2048x128 .f32) (f : v.ty.Contents (Elt F)) (a b b' : Vec F S1024x128 .f32) (L : List (View.Piece (Elt F) S2048x128 .f32)) :
    v.read (Elt F) (v.writes (Elt F) f (⟨r1hi, b⟩ :: ⟨r1hi, b'⟩ :: ⟨r1lo, a⟩ :: L)) = halves blank a b := by
  rw [View.read_writes_cons_put _ _ _ _ _ (rfl : (![1024, 0] : Fin 2 → ℕ) = ![1024, 0]), read_halves]
  unfold halves
  rw [VecWindow.put_put_same]

set_option maxHeartbeats 2000000 in
/-- The body at a point on the diagonal that starts its row of the grid. -/
theorem kernel1_00 (c : Dev nD) (E : Set ℕ) (i : grid1.Coords) (arg2 : Memref sig .tc .vmem S2048x2048 .fp8e4m3) (harg2 : arg2.IsWhole) (arg3 : Memref sig .tc .vmem S2048x2048 .fp8e4m3) (harg3 : arg3.IsWhole) (arg4 : Memref sig .tc .vmem S2048x128 .f32) (harg4 : arg4.IsWhole) (arg5 : Memref sig .tc .vmem S2048x128 .f32) (harg5 : arg5.IsWhole) (h1 : k1_cond1 i = 1#1) (h2 : ¬ k1_cond2 i = 1#1) (h3 : k1_cond3 i = 1#1) (h4 : k1_cond4 i = 1#1) (h5 : ¬ k1_cond5 i = 1#1) (h6 : k1_cond6 i = 1#1)
    (x0 x1 : Vec F S2048x2048 .fp8e4m3) (p : Vec F S2048x128 .f32 × Vec F S2048x128 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (sums1 x0 x1) ∗ owns (c : Thread nD τ) arg5 fullShare (addPos1 i x0 x1 clear1)) -∗ K ⟨⟩))
      ⊢ wp frame (wpE (defs₀ (F := F)) Variants.none c none) E (cc1__half2_body i arg2 harg2 arg3 harg3 arg4 harg4 arg5 harg5) K := by
  simp only [cc1__half2_body_eq_skeleton]; unfold cc1__half2_body_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact read_halves _ _ _ _ _
  iexists _; isplitr
  swap; · iexact H3
  ipureintro
  refine (read_halves_twice _ _ _ _ _ _).trans ?_
  unfold addPos1 clear1; rw [halves_top, halves_bottom]
  exact congrArg₂ (halves blank) (congrArg (k1_pay1 _ _ _) (load_top _ _ _ _)) (congrArg (k1_pay2 _ _ _) (load_bottom _ _ _ _))

set_option maxHeartbeats 2000000 in
/-- The body at a point off the diagonal that does not start its row. -/
theorem kernel1_01 (c : Dev nD) (E : Set ℕ) (i : grid1.Coords) (arg2 : Memref sig .tc .vmem S2048x2048 .fp8e4m3) (harg2 : arg2.IsWhole) (arg3 : Memref sig .tc .vmem S2048x2048 .fp8e4m3) (harg3 : arg3.IsWhole) (arg4 : Memref sig .tc .vmem S2048x128 .f32) (harg4 : arg4.IsWhole) (arg5 : Memref sig .tc .vmem S2048x128 .f32) (harg5 : arg5.IsWhole) (h1 : ¬ k1_cond1 i = 1#1) (h2 : k1_cond2 i = 1#1) (h3 : ¬ k1_cond3 i = 1#1) (h4 : ¬ k1_cond4 i = 1#1) (h5 : k1_cond5 i = 1#1) (h6 : ¬ k1_cond6 i = 1#1)
    (x0 x1 : Vec F S2048x2048 .fp8e4m3) (p : Vec F S2048x128 .f32 × Vec F S2048x128 .f32) (K : PUnit → sProp 𝕄) :
    iprop(owns (c : Thread nD τ) arg2 fullShare x0 ∗ owns (c : Thread nD τ) arg3 fullShare x1 ∗ owns (c : Thread nD τ) arg4 fullShare p.1 ∗ owns (c : Thread nD τ) arg5 fullShare p.2
        ∗ (iprop(owns (c : Thread nD τ) arg2 fullShare x0 ∗ owns (c : Thread nD τ) arg3 fullShare x1 ∗ owns (c : Thread nD τ) arg4 fullShare (addSums1 x0 x1 p.1) ∗ owns (c : Thread nD τ) arg5 fullShare (p.2)) -∗ K ⟨⟩))
      ⊢ wp frame (wpE (defs₀ (F := F)) Variants.none c none) E (cc1__half2_body i arg2 harg2 arg3 harg3 arg4 harg4 arg5 harg5) K := by
  simp only [cc1__half2_body_eq_skeleton]; unfold cc1__half2_body_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, Hk⟩
  subst hf0 hf1
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_halves _ _ _ _ _).trans ?_
    unfold addSums1; rw [← hf2]; rfl
  iexists _; isplitr
  swap; · iexact H3
  ipureintro
  exact hf3

set_option maxHeartbeats 2000000 in
/-- The body at a point off the diagonal that starts its row. -/
theorem kernel1_10 (c : Dev nD) (E : Set ℕ) (i : grid1.Coords) (arg2 : Memref sig .tc .vmem S2048x2048 .fp8e4m3) (harg2 : arg2.IsWhole) (arg3 : Memref sig .tc .vmem S2048x2048 .fp8e4m3) (harg3 : arg3.IsWhole) (arg4 : Memref sig .tc .vmem S2048x128 .f32) (harg4 : arg4.IsWhole) (arg5 : Memref sig .tc .vmem S2048x128 .f32) (harg5 : arg5.IsWhole) (h1 : k1_cond1 i = 1#1) (h2 : ¬ k1_cond2 i = 1#1) (h3 : ¬ k1_cond3 i = 1#1) (h4 : k1_cond4 i = 1#1) (h5 : ¬ k1_cond5 i = 1#1) (h6 : ¬ k1_cond6 i = 1#1)
    (x0 x1 : Vec F S2048x2048 .fp8e4m3) (p : Vec F S2048x128 .f32 × Vec F S2048x128 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (sums1 x0 x1) ∗ owns (c : Thread nD τ) arg5 fullShare (clear1)) -∗ K ⟨⟩))
      ⊢ wp frame (wpE (defs₀ (F := F)) Variants.none c none) E (cc1__half2_body i arg2 harg2 arg3 harg3 arg4 harg4 arg5 harg5) K := by
  simp only [cc1__half2_body_eq_skeleton]; unfold cc1__half2_body_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact read_halves _ _ _ _ _
  iexists _; isplitr
  swap; · iexact H3
  ipureintro
  exact read_halves _ _ _ _ _

set_option maxHeartbeats 2000000 in
/-- The body at a point on the diagonal that does not start its row. -/
theorem kernel1_11 (c : Dev nD) (E : Set ℕ) (i : grid1.Coords) (arg2 : Memref sig .tc .vmem S2048x2048 .fp8e4m3) (harg2 : arg2.IsWhole) (arg3 : Memref sig .tc .vmem S2048x2048 .fp8e4m3) (harg3 : arg3.IsWhole) (arg4 : Memref sig .tc .vmem S2048x128 .f32) (harg4 : arg4.IsWhole) (arg5 : Memref sig .tc .vmem S2048x128 .f32) (harg5 : arg5.IsWhole) (h1 : ¬ k1_cond1 i = 1#1) (h2 : k1_cond2 i = 1#1) (h3 : k1_cond3 i = 1#1) (h4 : ¬ k1_cond4 i = 1#1) (h5 : k1_cond5 i = 1#1) (h6 : k1_cond6 i = 1#1)
    (x0 x1 : Vec F S2048x2048 .fp8e4m3) (p : Vec F S2048x128 .f32 × Vec F S2048x128 .f32) (K : PUnit → sProp 𝕄) :
    iprop(owns (c : Thread nD τ) arg2 fullShare x0 ∗ owns (c : Thread nD τ) arg3 fullShare x1 ∗ owns (c : Thread nD τ) arg4 fullShare p.1 ∗ owns (c : Thread nD τ) arg5 fullShare p.2
        ∗ (iprop(owns (c : Thread nD τ) arg2 fullShare x0 ∗ owns (c : Thread nD τ) arg3 fullShare x1 ∗ owns (c : Thread nD τ) arg4 fullShare (addSums1 x0 x1 p.1) ∗ owns (c : Thread nD τ) arg5 fullShare (addPos1 i x0 x1 p.2)) -∗ K ⟨⟩))
      ⊢ wp frame (wpE (defs₀ (F := F)) Variants.none c none) E (cc1__half2_body i arg2 harg2 arg3 harg3 arg4 harg4 arg5 harg5) K := by
  simp only [cc1__half2_body_eq_skeleton]; unfold cc1__half2_body_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, Hk⟩
  subst hf0 hf1
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_halves _ _ _ _ _).trans ?_
    unfold addSums1; rw [← hf2]; rfl
  iexists _; isplitr
  swap; · iexact H3
  ipureintro
  refine (read_halves _ _ _ _ _).trans ?_
  unfold addPos1; rw [← hf3]; rfl

/-- The points that start a row of the grid, and the points on the grid's diagonal: the body tests each twice. -/
theorem cond1_start : ∀ t : Fin cfg1.N, (k1_cond1 (grid1.coords t) = 1#1 ↔ t.val % 2 = 0) ∧ (k1_cond2 (grid1.coords t) = 1#1 ↔ t.val % 2 ≠ 0)
    ∧ (k1_cond4 (grid1.coords t) = 1#1 ↔ t.val % 2 = 0) ∧ (k1_cond5 (grid1.coords t) = 1#1 ↔ t.val % 2 ≠ 0) :=
  (by decide +kernel : ∀ t : Fin grid1.N, (k1_cond1 (grid1.coords t) = 1#1 ↔ t.val % 2 = 0) ∧ (k1_cond2 (grid1.coords t) = 1#1 ↔ t.val % 2 ≠ 0)
    ∧ (k1_cond4 (grid1.coords t) = 1#1 ↔ t.val % 2 = 0) ∧ (k1_cond5 (grid1.coords t) = 1#1 ↔ t.val % 2 ≠ 0))
theorem cond1_diag : ∀ t : Fin cfg1.N, (k1_cond3 (grid1.coords t) = 1#1 ↔ t.val % 3 = 0) ∧ (k1_cond6 (grid1.coords t) = 1#1 ↔ t.val % 3 = 0) :=
  (by decide +kernel : ∀ t : Fin grid1.N, (k1_cond3 (grid1.coords t) = 1#1 ↔ t.val % 3 = 0) ∧ (k1_cond6 (grid1.coords t) = 1#1 ↔ t.val % 3 = 0))

section
-- the buffers' contents when the region is entered
variable (V : (c : Dev nD) → (b : Ref sig .tc) → Buf (Elt F) ((c : Thread nD τ).loc b))

/-- The block of window `w` at point `t`, as the region finds its array. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- Input window 0 holds its block at every point, whatever proof data leave it in place. -/
theorem holds1_0 {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- Input window 1 holds its block at every point, whatever proof data leave it in place. -/
theorem holds1_1 {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

/-- One point's step on the two accumulators. -/
def step1 (c : Dev nD) (t : Fin cfg1.N) (p : Vec F S2048x128 .f32 × Vec F S2048x128 .f32) : Vec F S2048x128 .f32 × Vec F S2048x128 .f32 :=
  (if t.val % 2 = 0 then sums1 (iblk1 V c 0 t) (iblk1 V c 1 t) else addSums1 (iblk1 V c 0 t) (iblk1 V c 1 t) p.1,
   if t.val % 3 = 0 then addPos1 (grid1.coords t) (iblk1 V c 0 t) (iblk1 V c 1 t) (if t.val % 2 = 0 then clear1 else p.2)
   else if t.val % 2 = 0 then clear1 else p.2)

/-- The two accumulators after the points up to and including `n`. -/
def outs1 (c : Dev nD) : (n : ℕ) → n < cfg1.N → Vec F S2048x128 .f32 × Vec F S2048x128 .f32
  | 0, h => step1 V c ⟨0, h⟩ (blank, blank)
  | n + 1, h => step1 V c ⟨n + 1, h⟩ (outs1 c n (Nat.lt_of_succ_lt h))

theorem outs1_start (c : Dev nD) (t : Fin cfg1.N) (h : t.val % 2 = 0) :
    outs1 V c t.val t.isLt = (sums1 (iblk1 V c 0 t) (iblk1 V c 1 t), if t.val % 3 = 0 then addPos1 (grid1.coords t) (iblk1 V c 0 t) (iblk1 V c 1 t) clear1 else clear1) := by
  obtain ⟨n, hn⟩ := t
  cases n with
  | zero => show step1 V c _ _ = _; unfold step1; simp only [if_pos h, if_true]
  | succ n => show step1 V c _ _ = _; unfold step1; simp only [if_pos h, if_true]
theorem outs1_later (c : Dev nD) (t : Fin cfg1.N) (h : ¬ t.val % 2 = 0) :
    outs1 V c t.val t.isLt = step1 V c t (outs1 V c (t.val - 1) (Nat.lt_of_le_of_lt (Nat.sub_le _ _) t.isLt)) := by
  obtain ⟨n, hn⟩ := t
  cases n with
  | zero => exact absurd rfl h
  | succ n => rfl

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outs1 V c t.val t.isLt).1
    | ⟨3, _⟩ => (outs1 V c t.val t.isLt).2
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outs1 V c t.val t.isLt).1 := by dsimp only [dat1]
theorem after1_3 (c : Dev nD) (t : Fin cfg1.N) : (dat1 V c).after 3 t = (outs1 V c t.val t.isLt).2 := by dsimp only [dat1]
theorem before1_0 (c : Dev nD) (t : Fin cfg1.N) (d) : (dat1 V c).before 0 t d = iblk1 V c 0 t :=
  holds1_0 V (dat1 V c) (A_eq1 V c 0) (after1_0 V c) t d
theorem before1_1 (c : Dev nD) (t : Fin cfg1.N) (d) : (dat1 V c).before 1 t d = iblk1 V c 1 t :=
  holds1_1 V (dat1 V c) (A_eq1 V c 1) (after1_1 V c) t d

theorem live1_2 : ∀ t : Fin cfg1.N, cfg1.idle 2 (cfg1.grid.coords t) = false :=
  (by decide +kernel : ∀ t : Fin grid1.N, idle1 2 (grid1.coords t) = false)
theorem idle1_3 : ∀ t : Fin cfg1.N, cfg1.idle 3 (cfg1.grid.coords t) = true → (cfg1.win 3).flush t = true ∧ ¬ t.val % 2 = 0 ∧ ¬ t.val % 3 = 0 :=
  (by decide +kernel : ∀ t : Fin grid1.N, idle1 3 (grid1.coords t) = true → win1_3.flush t = true ∧ ¬ t.val % 2 = 0 ∧ ¬ t.val % 3 = 0)
theorem fresh1_3 : ∀ n : Fin 4, cfg1.fresh 3 n.val = decide (n.val % 2 = 0) := by decide +kernel

/-- Inside a row of the grid an accumulator's buffer holds what the point before left. -/
theorem before1_2 (c : Dev nD) (t : Fin cfg1.N) (h : ¬ t.val % 2 = 0) (d) :
    (dat1 V c).before 2 t d = (outs1 V c (t.val - 1) (Nat.lt_of_le_of_lt (Nat.sub_le _ _) t.isLt)).1 := by
  have hN : t.val < 4 := lt_of_lt_of_eq t.isLt (show cfg1.N = 4 from N_1)
  rw [Dat.before_out_kept _ 2 rfl t (by omega) (Bool.eq_false_iff.mpr fun h => by have := (flush1_2 _).mp h; dsimp only at this; omega)
    (by decide +kernel) (fun _ _ => rfl)]
  dsimp only [dat1]
theorem before1_3 (c : Dev nD) (t : Fin cfg1.N) (h : ¬ t.val % 2 = 0) (d) :
    (dat1 V c).before 3 t d = (outs1 V c (t.val - 1) (Nat.lt_of_le_of_lt (Nat.sub_le _ _) t.isLt)).2 := by
  have hN : t.val < 4 := lt_of_lt_of_eq t.isLt (show cfg1.N = 4 from N_1)
  rw [Dat.before_out_traj (dat1 V c) 3 rfl (fun _ _ => rfl) (fun t h0 hi _ => by
    rw [after1_3, after1_3, outs1_later V c t (idle1_3 t hi).2.1, step1]; simp only [if_neg (idle1_3 t hi).2.2, if_neg (idle1_3 t hi).2.1]) t.val t rfl d]
  rw [show cfg1.fresh 3 t.val = false from (fresh1_3 ⟨t.val, hN⟩).trans (decide_eq_false h), if_neg (by decide)]
  dsimp only [dat1]

/-- What the body of region 1 is run from at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it is run to. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 800000 in
theorem body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  obtain ⟨s1, s2, s4, s5⟩ := cond1_start t
  obtain ⟨s3, s6⟩ := cond1_diag t
  by_cases hj : t.val % 2 = 0 <;> by_cases hd : t.val % 3 = 0
  · rw [outs1_start V c t hj, if_pos hd]
    iintro ⟨HΦ, Ho, ⟨%d0, H0⟩, ⟨%d1, H1⟩, ⟨%d2, H2⟩, ⟨%d3, H3⟩⟩
    iapply (kernel1_00 c Set.univ (grid1.coords t) _ _ _ _ _ _ _ _ (s1.mpr hj) (fun h => s2.mp h hj) (s3.mpr hd) (s4.mpr hj) (fun h => s5.mp h hj) (s6.mpr hd) (iblk1 V c 0 t) (iblk1 V c 1 t) (blank, blank) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outs1_start V c t hj, if_neg hd]
    iintro ⟨HΦ, Ho, ⟨%d0, H0⟩, ⟨%d1, H1⟩, ⟨%d2, H2⟩, ⟨%d3, H3⟩⟩
    iapply (kernel1_10 c Set.univ (grid1.coords t) _ _ _ _ _ _ _ _ (s1.mpr hj) (fun h => s2.mp h hj) (fun h => hd (s3.mp h)) (s4.mpr hj) (fun h => s5.mp h hj) (fun h => hd (s6.mp h)) (iblk1 V c 0 t) (iblk1 V c 1 t) (blank, blank) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outs1_later V c t hj, step1, if_neg hj, if_pos hd, if_neg hj]
    simp only [before1_2 V c t hj, before1_3 V c t hj]
    iintro ⟨HΦ, Ho, ⟨%d0, H0⟩, ⟨%d1, H1⟩, ⟨%d2, H2⟩, ⟨%d3, H3⟩⟩
    iapply (kernel1_11 c Set.univ (grid1.coords t) _ _ _ _ _ _ _ _ (fun h => hj (s1.mp h)) (s2.mpr hj) (s3.mpr hd) (fun h => hj (s4.mp h)) (s5.mpr hj) (s6.mpr hd) (iblk1 V c 0 t) (iblk1 V c 1 t) (_, _) _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outs1_later V c t hj, step1, if_neg hj, if_neg hd, if_neg hj]
    simp only [before1_2 V c t hj, before1_3 V c t hj]
    iintro ⟨HΦ, Ho, ⟨%d0, H0⟩, ⟨%d1, H1⟩, ⟨%d2, H2⟩, ⟨%d3, H3⟩⟩
    iapply (kernel1_01 c Set.univ (grid1.coords t) _ _ _ _ _ _ _ _ (fun h => hj (s1.mp h)) (s2.mpr hj) (fun h => hd (s3.mp h)) (fun h => hj (s4.mp h)) (s5.mpr hj) (fun h => hd (s6.mp h)) (iblk1 V c 0 t) (iblk1 V c 1 t) (_, _) _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

theorem row1 (t : Fin cfg1.N) :
    defs₀ (F := F) .tc cfg1.body (cfg1.bodyArgs t (cfg1.slots t)) = bodyAt1 t := by
  unfold defs₀; rw [Defs.onTc_tc]

/-- Region 1's obligation at every point. -/
theorem obligation1 (c : Dev nD) : BodyObligation (dat1 (F := F) V c) (defs₀ (F := F)) Variants.none () Set.univ := fun t => by
  rw [bigSep_W1, bigSep_W1, row1]
  refine triple_restated (body1 V c t) rfl .rfl fun _ => ?_
  unfold bodyPost1
  rw [live1_2 t]
  rcases hi : cfg1.idle 3 (cfg1.grid.coords t) with _ | _
  · exact .rfl
  rw [(idle1_3 t hi).1]

end

end Cert.KernelIdeal.Hand

end
-- ==== Proof.KI.Region2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.VecWindow
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev r2w : Rect S2048x1024 := Rect.unit (s := S2048x1024) ![0, 0] S2048x1024.size inb_S2048x1024_S2048x1024_0_0

/-- What a point on the diagonal makes of the two accumulators: its row of the first grows by the masked lane sums. -/
def diag2 (i : grid2.Coords) (h : k2_cond2 i = 1#1) (x0 x1 : Vec F S2048x1024 .fp8e4m3)
    (p : Vec F S4x1024x128 .f32 × Vec F S4x8x1024 .f32) : Vec F S4x1024x128 .f32 × Vec F S4x8x1024 .f32 :=
  (VecWindow.put p.1 (k2_off1 i) S1x1024x128.size
    (k2_pay2 (k2_pay11 (View.ld x0 r2w)) (View.ld x1 r2w) (VecWindow.window p.1 (k2_off1 i) S1x1024x128.size (k2_off1_inb i h))), p.2)

/-- What a point off the diagonal makes of them: a row of the first grows by the lane sums, a row of the second by the sublane sums. -/
def off2 (i : grid2.Coords) (h : k2_cond3 i = 1#1) (x0 x1 : Vec F S2048x1024 .fp8e4m3)
    (p : Vec F S4x1024x128 .f32 × Vec F S4x8x1024 .f32) : Vec F S4x1024x128 .f32 × Vec F S4x8x1024 .f32 :=
  (VecWindow.put p.1 (k2_off2 i) S1x1024x128.size
    (k2_pay4 (k2_pay1 (k2_pay11 (View.ld x0 r2w)) (View.ld x1 r2w)) (VecWindow.window p.1 (k2_off2 i) S1x1024x128.size (k2_off2_inb i h))),
   VecWindow.put p.2 (k2_off3 i) S1x8x1024.size
    (k2_pay3 (k2_pay11 (View.ld x0 r2w)) (View.ld x1 r2w)
      (k2_pay8 (k2_pay1 (k2_pay11 (View.ld x0 r2w)) (View.ld x1 r2w)) (k2_pay7 (k2_pay1 (k2_pay11 (View.ld x0 r2w)) (View.ld x1 r2w)) (k2_pay6 (k2_pay1 (k2_pay11 (View.ld x0 r2w)) (View.ld x1 r2w)) (k2_pay5 (k2_pay1 (k2_pay11 (View.ld x0 r2w)) (View.ld x1 r2w))))))
      (VecWindow.window p.2 (k2_off3 i) S1x8x1024.size (k2_off3_inb i h))))

/-- The accumulators as the first point clears them. -/
def zero2 : Vec F S4x1024x128 .f32 × Vec F S4x8x1024 .f32 := (k2_pay9, k2_pay10)

set_option maxHeartbeats 2000000 in
/-- The body at the first point: it clears both accumulators and runs the diagonal step. -/
theorem kernel2_first (c : Dev nD) (E : Set ℕ) (i : grid2.Coords) (arg1 : Memref sig .tc .vmem S2048x1024 .fp8e4m3) (harg1 : arg1.IsWhole) (arg2 : Memref sig .tc .vmem S2048x1024 .fp8e4m3) (harg2 : arg2.IsWhole) (arg3 : Memref sig .tc .vmem S4x1024x128 .f32) (harg3 : arg3.IsWhole) (arg4 : Memref sig .tc .vmem S4x8x1024 .f32) (harg4 : arg4.IsWhole) (h1 : k2_cond1 i = 1#1) (h2 : k2_cond2 i = 1#1) (h3 : ¬ k2_cond3 i = 1#1)
    (x0 x1 : Vec F S2048x1024 .fp8e4m3) (p : Vec F S4x1024x128 .f32 × Vec F S4x8x1024 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (diag2 i h2 x0 x1 zero2).1 ∗ owns (c : Thread nD τ) arg4 fullShare (diag2 i h2 x0 x1 zero2).2) -∗ K ⟨⟩))
      ⊢ wp frame (wpE (defs₀ (F := F)) Variants.none c none) E (cc2__tri_body i arg1 harg1 arg2 harg2 arg3 harg3 arg4 harg4) K := by
  simp only [cc2__tri_body_eq_skeleton]; unfold cc2__tri_body_skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_cons_put _ _ _ _ _ (rfl : k2_off1 i = k2_off1 i)]
    have hz := View.read_writes_full (Val := Elt F) arg3.view arg3.view.junk inb_S4x1024x128_S4x1024x128_0_0_0 (k2_pay9 (F := F)) []
    have e : (diag2 i h2 (View.read (Elt F) arg1.view f0) (View.read (Elt F) arg2.view f1) (View.read (Elt F) arg3.view (arg3.view.writes (Elt F) arg3.view.junk
        [⟨Rect.unit (s := S4x1024x128) ![0, 0, 0] S4x1024x128.size inb_S4x1024x128_S4x1024x128_0_0_0, k2_pay9 (F := F)⟩]), k2_pay10 (F := F))).1
        = (diag2 i h2 (View.read (Elt F) arg1.view f0) (View.read (Elt F) arg2.view f1) zero2).1 := by rw [hz]; rfl
    refine Eq.trans ?_ e
    rfl
  iexists _; isplitr
  swap; · iexact H3
  ipureintro
  rw [View.read_writes_full]; rfl

set_option maxHeartbeats 2000000 in
/-- The body at a later point on the diagonal. -/
theorem kernel2_diag (c : Dev nD) (E : Set ℕ) (i : grid2.Coords) (arg1 : Memref sig .tc .vmem S2048x1024 .fp8e4m3) (harg1 : arg1.IsWhole) (arg2 : Memref sig .tc .vmem S2048x1024 .fp8e4m3) (harg2 : arg2.IsWhole) (arg3 : Memref sig .tc .vmem S4x1024x128 .f32) (harg3 : arg3.IsWhole) (arg4 : Memref sig .tc .vmem S4x8x1024 .f32) (harg4 : arg4.IsWhole) (h1 : ¬ k2_cond1 i = 1#1) (h2 : k2_cond2 i = 1#1) (h3 : ¬ k2_cond3 i = 1#1)
    (x0 x1 : Vec F S2048x1024 .fp8e4m3) (p : Vec F S4x1024x128 .f32 × Vec F S4x8x1024 .f32) (K : PUnit → sProp 𝕄) :
    iprop(owns (c : Thread nD τ) arg1 fullShare x0 ∗ owns (c : Thread nD τ) arg2 fullShare x1 ∗ owns (c : Thread nD τ) arg3 fullShare p.1 ∗ owns (c : Thread nD τ) arg4 fullShare p.2
        ∗ (iprop(owns (c : Thread nD τ) arg1 fullShare x0 ∗ owns (c : Thread nD τ) arg2 fullShare x1 ∗ owns (c : Thread nD τ) arg3 fullShare (diag2 i h2 x0 x1 p).1 ∗ owns (c : Thread nD τ) arg4 fullShare (diag2 i h2 x0 x1 p).2) -∗ K ⟨⟩))
      ⊢ wp frame (wpE (defs₀ (F := F)) Variants.none c none) E (cc2__tri_body i arg1 harg1 arg2 harg2 arg3 harg3 arg4 harg4) K := by
  simp only [cc2__tri_body_eq_skeleton]; unfold cc2__tri_body_skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%f2, %hf2, H2⟩, ⟨%f3, %hf3, H3⟩, Hk⟩
  subst hf0 hf1
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_cons_put _ _ _ _ _ (rfl : k2_off1 i = k2_off1 i)]
    unfold diag2; rw [← hf2]; rfl
  iexists _; isplitr
  swap; · iexact H3
  ipureintro
  exact hf3

set_option maxHeartbeats 2000000 in
/-- The body at a point off the diagonal. -/
theorem kernel2_off (c : Dev nD) (E : Set ℕ) (i : grid2.Coords) (arg1 : Memref sig .tc .vmem S2048x1024 .fp8e4m3) (harg1 : arg1.IsWhole) (arg2 : Memref sig .tc .vmem S2048x1024 .fp8e4m3) (harg2 : arg2.IsWhole) (arg3 : Memref sig .tc .vmem S4x1024x128 .f32) (harg3 : arg3.IsWhole) (arg4 : Memref sig .tc .vmem S4x8x1024 .f32) (harg4 : arg4.IsWhole) (h1 : ¬ k2_cond1 i = 1#1) (h2 : ¬ k2_cond2 i = 1#1) (h3 : k2_cond3 i = 1#1)
    (x0 x1 : Vec F S2048x1024 .fp8e4m3) (p : Vec F S4x1024x128 .f32 × Vec F S4x8x1024 .f32) (K : PUnit → sProp 𝕄) :
    iprop(owns (c : Thread nD τ) arg1 fullShare x0 ∗ owns (c : Thread nD τ) arg2 fullShare x1 ∗ owns (c : Thread nD τ) arg3 fullShare p.1 ∗ owns (c : Thread nD τ) arg4 fullShare p.2
        ∗ (iprop(owns (c : Thread nD τ) arg1 fullShare x0 ∗ owns (c : Thread nD τ) arg2 fullShare x1 ∗ owns (c : Thread nD τ) arg3 fullShare (off2 i h3 x0 x1 p).1 ∗ owns (c : Thread nD τ) arg4 fullShare (off2 i h3 x0 x1 p).2) -∗ K ⟨⟩))
      ⊢ wp frame (wpE (defs₀ (F := F)) Variants.none c none) E (cc2__tri_body i arg1 harg1 arg2 harg2 arg3 harg3 arg4 harg4) K := by
  simp only [cc2__tri_body_eq_skeleton]; unfold cc2__tri_body_skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%f2, %hf2, H2⟩, ⟨%f3, %hf3, H3⟩, Hk⟩
  subst hf0 hf1
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_cons_put _ _ _ _ _ (rfl : k2_off2 i = k2_off2 i)]
    unfold off2; rw [← hf2]; rfl
  iexists _; isplitr
  swap; · iexact H3
  ipureintro
  rw [View.read_writes_cons_put _ _ _ _ _ (rfl : k2_off3 i = k2_off3 i)]
  unfold off2; rw [← hf3]; rfl

/-- Only the first point clears. -/
theorem cond2_first : ∀ t : Fin cfg2.N, k2_cond1 (grid2.coords t) = 1#1 ↔ t.val = 0 :=
  (by decide +kernel : ∀ t : Fin grid2.N, k2_cond1 (grid2.coords t) = 1#1 ↔ t.val = 0)
/-- The points on the diagonal. -/
theorem cond2_diag : ∀ t : Fin cfg2.N, k2_cond2 (grid2.coords t) = 1#1 ↔ (t.val = 0 ∨ t.val = 4 ∨ t.val = 7 ∨ t.val = 9) :=
  (by decide +kernel : ∀ t : Fin grid2.N, k2_cond2 (grid2.coords t) = 1#1 ↔ (t.val = 0 ∨ t.val = 4 ∨ t.val = 7 ∨ t.val = 9))
/-- Every point is on it or off it. -/
theorem cond2_off : ∀ t : Fin cfg2.N, k2_cond3 (grid2.coords t) = 1#1 ↔ ¬ k2_cond2 (grid2.coords t) = 1#1 :=
  (by decide +kernel : ∀ t : Fin grid2.N, k2_cond3 (grid2.coords t) = 1#1 ↔ ¬ k2_cond2 (grid2.coords t) = 1#1)

section
-- the buffers' contents when the region is entered
variable (V : (c : Dev nD) → (b : Ref sig .tc) → Buf (Elt F) ((c : Thread nD τ).loc b))

/-- The block of window `w` at point `t`, as the region finds its array. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- Input window 0 holds its block at every point, whatever proof data leave it in place. -/
theorem holds2_0 {c : Dev nD} (dat : Dat τ (Elt F) Unit ℕ (UR sig nD τ) ℕ cfg2 c)
    (hA : dat.A 0 = V c (Pipeline.arrRef spec2 0)) (hafter : ∀ t, dat.after 0 t = iblk2 V c 0 t)
    (t : Fin cfg2.N) (d) : dat.before 0 t d = iblk2 V c 0 t :=
  (dat.before_in_eq_fetched 0 rfl (fun _ => rfl) (fun _ _ _ => rfl)
      (fun t => by rw [hafter]; unfold Dat.blockOf iblk2; rw [hA]; try rfl) t d).trans
    (by unfold Dat.fetched Dat.blockOf iblk2; rw [hA]; try rfl)

/-- Input window 1 holds its block at every point, whatever proof data leave it in place. -/
theorem holds2_1 {c : Dev nD} (dat : Dat τ (Elt F) Unit ℕ (UR sig nD τ) ℕ cfg2 c)
    (hA : dat.A 1 = V c (Pipeline.arrRef spec2 1)) (hafter : ∀ t, dat.after 1 t = iblk2 V c 1 t)
    (t : Fin cfg2.N) (d) : dat.before 1 t d = iblk2 V c 1 t :=
  (dat.before_in_eq_fetched 1 rfl (fun _ => rfl) (fun _ _ _ => rfl)
      (fun t => by rw [hafter]; unfold Dat.blockOf iblk2; rw [hA]; try rfl) t d).trans
    (by unfold Dat.fetched Dat.blockOf iblk2; rw [hA]; try rfl)

/-- One point's step. -/
def step2 (c : Dev nD) (t : Fin cfg2.N) (p : Vec F S4x1024x128 .f32 × Vec F S4x8x1024 .f32) : Vec F S4x1024x128 .f32 × Vec F S4x8x1024 .f32 :=
  if h : k2_cond2 (grid2.coords t) = 1#1 then diag2 (grid2.coords t) h (iblk2 V c 0 t) (iblk2 V c 1 t) p
  else off2 (grid2.coords t) ((cond2_off t).mpr h) (iblk2 V c 0 t) (iblk2 V c 1 t) p

/-- The two accumulators after the points up to and including `n`. -/
def outs2 (c : Dev nD) : (n : ℕ) → n < cfg2.N → Vec F S4x1024x128 .f32 × Vec F S4x8x1024 .f32
  | 0, h => step2 V c ⟨0, h⟩ zero2
  | n + 1, h => step2 V c ⟨n + 1, h⟩ (outs2 c n (Nat.lt_of_succ_lt h))

theorem outs2_first (c : Dev nD) (t : Fin cfg2.N) (h : t.val = 0) : outs2 V c t.val t.isLt = step2 V c t zero2 := by
  obtain ⟨n, hn⟩ := t; subst h; rfl
theorem outs2_later (c : Dev nD) (t : Fin cfg2.N) (h : t.val ≠ 0) :
    outs2 V c t.val t.isLt = step2 V c t (outs2 V c (t.val - 1) (Nat.lt_of_le_of_lt (Nat.sub_le _ _) t.isLt)) := by
  obtain ⟨n, hn⟩ := t
  cases n with
  | zero => exact absurd rfl h
  | succ n => rfl

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outs2 V c t.val t.isLt).1
    | ⟨3, _⟩ => (outs2 V c t.val t.isLt).2
  Φ _ := Pipeline.ΦA spec2 c
  q w := Pipeline.shareOf spec2 w
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outs2 V c t.val t.isLt).1 := by dsimp only [dat2]
theorem after2_3 (c : Dev nD) (t : Fin cfg2.N) : (dat2 V c).after 3 t = (outs2 V c t.val t.isLt).2 := by dsimp only [dat2]
theorem before2_0 (c : Dev nD) (t : Fin cfg2.N) (d) : (dat2 V c).before 0 t d = iblk2 V c 0 t :=
  holds2_0 V (dat2 V c) (A_eq2 V c 0) (after2_0 V c) t d
theorem before2_1 (c : Dev nD) (t : Fin cfg2.N) (d) : (dat2 V c).before 1 t d = iblk2 V c 1 t :=
  holds2_1 V (dat2 V c) (A_eq2 V c 1) (after2_1 V c) t d

/-- Off its first point the first accumulator's buffer holds what the point before left. -/
theorem before2_2 (c : Dev nD) (t : Fin cfg2.N) (h : t.val ≠ 0) (d) :
    (dat2 V c).before 2 t d = (outs2 V c (t.val - 1) (Nat.lt_of_le_of_lt (Nat.sub_le _ _) t.isLt)).1 := by
  have hN : t.val < 10 := lt_of_lt_of_eq t.isLt (show cfg2.N = 10 from N_2)
  rw [Dat.before_out_kept _ 2 rfl t (by omega) (Bool.eq_false_iff.mpr fun h => by have := (flush2_2 _).mp h; dsimp only at this; omega)
    (by decide +kernel) (fun _ _ => rfl)]
  dsimp only [dat2]

/-- The second accumulator's buffer is untouched on the diagonal, and what it holds is still what the point before left. -/
theorem fresh2_3 : ∀ n : Fin 10, cfg2.fresh 3 n.val = decide (n.val = 0) := by decide +kernel
theorem idle2_3 : ∀ t : Fin cfg2.N, cfg2.idle 3 (cfg2.grid.coords t) = true → k2_cond2 (grid2.coords t) = 1#1 ∧ t.val ≠ 0 :=
  (by decide +kernel : ∀ t : Fin grid2.N, idle2 3 (grid2.coords t) = true → k2_cond2 (grid2.coords t) = 1#1 ∧ t.val ≠ 0)
theorem outs2_idle (c : Dev nD) (t : Fin cfg2.N) (h : t.val ≠ 0) (h2 : k2_cond2 (grid2.coords t) = 1#1) :
    (outs2 V c t.val t.isLt).2 = (outs2 V c (t.val - 1) (Nat.lt_of_le_of_lt (Nat.sub_le _ _) t.isLt)).2 := by
  rw [outs2_later V c t h, step2, dif_pos h2, diag2]

theorem before2_3 (c : Dev nD) (t : Fin cfg2.N) (h : t.val ≠ 0) (d) :
    (dat2 V c).before 3 t d = (outs2 V c (t.val - 1) (Nat.lt_of_le_of_lt (Nat.sub_le _ _) t.isLt)).2 := by
  have hN : t.val < 10 := lt_of_lt_of_eq t.isLt (show cfg2.N = 10 from N_2)
  rw [Dat.before_out_traj (dat2 V c) 3 rfl (fun _ _ => rfl) (fun t h0 hi _ => by
    rw [after2_3, after2_3]; exact outs2_idle V c t h0 (idle2_3 t hi).1) t.val t rfl d]
  rw [show cfg2.fresh 3 t.val = false from (fresh2_3 ⟨t.val, hN⟩).trans (decide_eq_false h), if_neg (by decide)]
  dsimp only [dat2]

/-- What the body of region 2 is run from at point `t`, window by window. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it is run to. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 800000 in
theorem body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  by_cases h0 : t.val = 0
  · have h1 := (cond2_first t).mpr h0
    have h2 := (cond2_diag t).mpr (.inl h0)
    have h3 : ¬ k2_cond3 (grid2.coords t) = 1#1 := fun h => (cond2_off t).mp h h2
    rw [outs2_first V c t h0, step2, dif_pos h2]
    iintro ⟨HΦ, Ho, ⟨%d0, H0⟩, ⟨%d1, H1⟩, ⟨%d2, H2⟩, ⟨%d3, H3⟩⟩
    iapply (kernel2_first c Set.univ (grid2.coords t) _ _ _ _ _ _ _ _ h1 h2 h3 (iblk2 V c 0 t) (iblk2 V c 1 t) zero2 _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  have h1 : ¬ k2_cond1 (grid2.coords t) = 1#1 := fun h => h0 ((cond2_first t).mp h)
  rw [outs2_later V c t h0, step2]
  simp only [before2_2 V c t h0, before2_3 V c t h0]
  by_cases h2 : k2_cond2 (grid2.coords t) = 1#1
  · have h3 : ¬ k2_cond3 (grid2.coords t) = 1#1 := fun h => (cond2_off t).mp h h2
    rw [dif_pos h2]
    iintro ⟨HΦ, Ho, ⟨%d0, H0⟩, ⟨%d1, H1⟩, ⟨%d2, H2⟩, ⟨%d3, H3⟩⟩
    iapply (kernel2_diag c Set.univ (grid2.coords t) _ _ _ _ _ _ _ _ h1 h2 h3 (iblk2 V c 0 t) (iblk2 V c 1 t) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have h3 := (cond2_off t).mpr h2
    rw [dif_neg h2]
    iintro ⟨HΦ, Ho, ⟨%d0, H0⟩, ⟨%d1, H1⟩, ⟨%d2, H2⟩, ⟨%d3, H3⟩⟩
    iapply (kernel2_off c Set.univ (grid2.coords t) _ _ _ _ _ _ _ _ h1 h2 h3 (iblk2 V c 0 t) (iblk2 V c 1 t) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

theorem row2 (t : Fin cfg2.N) :
    defs₀ (F := F) .tc cfg2.body (cfg2.bodyArgs t (cfg2.slots t)) = bodyAt2 t := by
  unfold defs₀; rw [Defs.onTc_tc]

theorem live2_2 : ∀ t : Fin cfg2.N, cfg2.idle 2 (cfg2.grid.coords t) = false :=
  (by decide +kernel : ∀ t : Fin grid2.N, idle2 2 (grid2.coords t) = false)

/-- Region 2's obligation at every point. -/
theorem obligation2 (c : Dev nD) : BodyObligation (dat2 (F := F) V c) (defs₀ (F := F)) Variants.none () Set.univ := fun t => by
  rw [bigSep_W2, bigSep_W2, row2]
  refine triple_restated (body2 V c t) rfl .rfl fun _ => ?_
  unfold bodyPost2
  rw [live2_2 t]
  rcases hi : cfg2.idle 3 (cfg2.grid.coords t) with _ | _
  · exact .rfl
  rcases hf : (cfg2.win 3).flush t with _ | _
  · obtain ⟨h2, h0⟩ := idle2_3 t hi
    rw [after2_3, outs2_idle V c t h0 h2]
    simp only [before2_3 V c t h0]
    iintro ⟨HΦ, Ho, H0, H1, H2, H3⟩
    isplitl [HΦ]; · iexact HΦ
    isplitl [Ho]; · iexact Ho
    isplitl [H0]; · iexact H0
    isplitl [H1]; · iexact H1
    isplitl [H2]; · iexact H2
    iexists (fun _ => (Classical.arbitrary _)); iexact H3
  · exact .rfl

end

end Cert.KernelIdeal.Hand

end
-- ==== Proof.KI.Region3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.VecWindow
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
-- the buffers' contents when the region is entered
variable (V : (c : Dev nD) → (b : Ref sig .tc) → Buf (Elt F) ((c : Thread nD τ).loc b))

/-- The block of window `w` at point `t`, as the region finds its array. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- Input window 0 holds its block at every point, whatever proof data leave it in place. -/
theorem holds3_0 {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t :=
  (dat.before_in_eq_fetched 0 rfl (fun _ => rfl) (fun _ _ _ => rfl)
      (fun t => by rw [hafter]; unfold Dat.blockOf iblk3; rw [hA]; try rfl) t d).trans
    (by unfold Dat.fetched Dat.blockOf iblk3; rw [hA]; try rfl)

/-- Input window 1 holds its block at every point, whatever proof data leave it in place. -/
theorem holds3_1 {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t :=
  (dat.before_in_eq_fetched 1 rfl (fun _ => rfl) (fun _ _ _ => rfl)
      (fun t => by rw [hafter]; unfold Dat.blockOf iblk3; rw [hA]; try rfl) t d).trans
    (by unfold Dat.fetched Dat.blockOf iblk3; rw [hA]; try rfl)

/-- Input window 2 holds its block at every point, whatever proof data leave it in place. -/
theorem holds3_2 {c : Dev nD} (dat : Dat τ (Elt F) Unit ℕ (UR sig nD τ) ℕ cfg3 c)
    (hA : dat.A 2 = V c (Pipeline.arrRef spec3 2)) (hafter : ∀ t, dat.after 2 t = iblk3 V c 2 t)
    (t : Fin cfg3.N) (d) : dat.before 2 t d = iblk3 V c 2 t :=
  (dat.before_in_eq_fetched 2 rfl (fun _ => rfl) (fun _ _ _ => rfl)
      (fun t => by rw [hafter]; unfold Dat.blockOf iblk3; rw [hA]; try rfl) t d).trans
    (by unfold Dat.fetched Dat.blockOf iblk3; rw [hA]; try rfl)

/-- Input window 3 holds its block at every point, whatever proof data leave it in place. -/
theorem holds3_3 {c : Dev nD} (dat : Dat τ (Elt F) Unit ℕ (UR sig nD τ) ℕ cfg3 c)
    (hA : dat.A 3 = V c (Pipeline.arrRef spec3 3)) (hafter : ∀ t, dat.after 3 t = iblk3 V c 3 t)
    (t : Fin cfg3.N) (d) : dat.before 3 t d = iblk3 V c 3 t :=
  (dat.before_in_eq_fetched 3 rfl (fun _ => rfl) (fun _ _ _ => rfl)
      (fun t => by rw [hafter]; unfold Dat.blockOf iblk3; rw [hA]; try rfl) t d).trans
    (by unfold Dat.fetched Dat.blockOf iblk3; rw [hA]; try rfl)

abbrev r3c : Rect S4x8x1024 := Rect.unit (s := S4x8x1024) ![0, 0, 0] S4x8x1024.size inb_S4x8x1024_S4x8x1024_0_0_0
abbrev r3a0 : Rect S4096x128 := Rect.unit (s := S4096x128) ![0, 0] S1024x128.size inb_S4096x128_S1024x128_0_0
abbrev r3b0 : Rect S4x1024x128 := Rect.unit (s := S4x1024x128) ![0, 0, 0] S1x1024x128.size inb_S4x1024x128_S1x1024x128_0_0_0
abbrev r3a1 : Rect S4096x128 := Rect.unit (s := S4096x128) ![1024, 0] S1024x128.size inb_S4096x128_S1024x128_1024_0
abbrev r3b1 : Rect S4x1024x128 := Rect.unit (s := S4x1024x128) ![1, 0, 0] S1x1024x128.size inb_S4x1024x128_S1x1024x128_1_0_0
abbrev r3a2 : Rect S4096x128 := Rect.unit (s := S4096x128) ![2048, 0] S1024x128.size inb_S4096x128_S1024x128_2048_0
abbrev r3b2 : Rect S4x1024x128 := Rect.unit (s := S4x1024x128) ![2, 0, 0] S1x1024x128.size inb_S4x1024x128_S1x1024x128_2_0_0
abbrev r3a3 : Rect S4096x128 := Rect.unit (s := S4096x128) ![3072, 0] S1024x128.size inb_S4096x128_S1024x128_3072_0
abbrev r3b3 : Rect S4x1024x128 := Rect.unit (s := S4x1024x128) ![3, 0, 0] S1x1024x128.size inb_S4x1024x128_S1x1024x128_3_0_0
abbrev r3o : Rect S1x1 := Rect.unit (s := S1x1) ![0, 0] S1x1.size inb_S1x1_S1x1_0_0

/-- The loss as the last region's body computes it from its four arrays. -/
def lossOf (x0 : Vec F S4096x128 .f32) (x1 : Vec F S4x1024x128 .f32) (x2 : Vec F S4096x128 .f32) (x3 : Vec F S4x8x1024 .f32) : Vec F S1x1 .f32 :=
  k3_pay1 (k3_pay2 (View.ld x3 r3c))
    (k3_pay5 (k3_pay2 (View.ld x3 r3c)) (k3_pay3 (View.ld x3 r3c) (View.ld x0 r3a0) (View.ld x1 r3b0) (View.ld x2 r3a0))
      (k3_pay4 (View.ld x3 r3c) (View.ld x0 r3a1) (View.ld x1 r3b1)) (View.ld x2 r3a1) (View.ld x0 r3a2) (View.ld x1 r3b2) (View.ld x2 r3a2))
    (k3_pay6 (View.ld x0 r3a3)) (k3_pay7 (View.ld x1 r3b3)) (View.ld x2 r3a3)

def out3 (x0 : Vec F S4096x128 .f32) (x1 : Vec F S4x1024x128 .f32) (x2 : Vec F S4096x128 .f32) (x3 : Vec F S4x8x1024 .f32) : Vec F S1x1 .f32 :=
  View.canon [⟨r3o, lossOf x0 x1 x2 x3⟩]

theorem cover3 (p0 : Vec F S1x1 .f32) (y : S1x1.Idx) :
    ∃ pc ∈ ([⟨r3o, p0⟩] : List (View.Piece (Elt F) S1x1 .f32)), y ∈ pc.1.set :=
  View.cover_of_tiled [⟨r3o, p0⟩] S1x1.size (by rfl) y

set_option maxHeartbeats 1000000 in
/-- The body of region 3 on any whole staging buffers. -/
theorem kernel3 (c : Dev nD) (E : Set ℕ) (arg0 : Memref sig .tc .vmem S4096x128 .f32) (harg0 : arg0.IsWhole) (arg1 : Memref sig .tc .vmem S4x1024x128 .f32) (harg1 : arg1.IsWhole) (arg2 : Memref sig .tc .vmem S4096x128 .f32) (harg2 : arg2.IsWhole) (arg3 : Memref sig .tc .vmem S4x8x1024 .f32) (harg3 : arg3.IsWhole) (arg4 : Memref sig .tc .vmem S1x1 .f32) (harg4 : arg4.IsWhole)
    (x0 : Vec F S4096x128 .f32) (x1 : Vec F S4x1024x128 .f32) (x2 : Vec F S4096x128 .f32) (x3 : Vec F S4x8x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3 x0 x1 x2 x3)) -∗ K ⟨⟩))
      ⊢ wp frame (wpE (defs₀ (F := F)) Variants.none c none) E (cc3__loss_body arg0 harg0 arg1 harg1 arg2 harg2 arg3 harg3 arg4 harg4) K := by
  simp only [cc3__loss_body_eq_skeleton]; unfold cc3__loss_body_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover3 _)).trans ?_
  rfl

/-- The proof data of region 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 (iblk3 V c 0 t) (iblk3 V c 1 t) (iblk3 V c 2 t) (iblk3 V c 3 t) := by dsimp only [dat3]
theorem before3_0 (c : Dev nD) (t : Fin cfg3.N) (d) : (dat3 V c).before 0 t d = iblk3 V c 0 t :=
  holds3_0 V (dat3 V c) (A_eq3 V c 0) (after3_0 V c) t d
theorem before3_1 (c : Dev nD) (t : Fin cfg3.N) (d) : (dat3 V c).before 1 t d = iblk3 V c 1 t :=
  holds3_1 V (dat3 V c) (A_eq3 V c 1) (after3_1 V c) t d
theorem before3_2 (c : Dev nD) (t : Fin cfg3.N) (d) : (dat3 V c).before 2 t d = iblk3 V c 2 t :=
  holds3_2 V (dat3 V c) (A_eq3 V c 2) (after3_2 V c) t d
theorem before3_3 (c : Dev nD) (t : Fin cfg3.N) (d) : (dat3 V c).before 3 t d = iblk3 V c 3 t :=
  holds3_3 V (dat3 V c) (A_eq3 V c 3) (after3_3 V c) t d

/-- What the body of region 3 is run from at point `t`, window by window. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What it is run to. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (kernel3 c Set.univ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row3 (t : Fin cfg3.N) :
    defs₀ (F := F) .tc cfg3.body (cfg3.bodyArgs t (cfg3.slots t)) = bodyAt3 t := by
  unfold defs₀; rw [Defs.onTc_tc]

/-- Region 3's obligation at every point. -/
theorem obligation3 (c : Dev nD) : BodyObligation (dat3 (F := F) V c) (defs₀ (F := F)) Variants.none () Set.univ := fun t => by
  rw [bigSep_W3, bigSep_W3, row3]
  exact triple_restated (body3 V c t) rfl .rfl fun _ => .rfl

end

end Cert.KernelIdeal.Hand

end
-- ==== Proof.KI.Run.lean ====
module

public import proofs.«01_k».proof.Proof.KI.Region0
public import proofs.«01_k».proof.Proof.KI.Region1
public import proofs.«01_k».proof.Proof.KI.Region2
public import proofs.«01_k».proof.Proof.KI.Region3

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The one argument array. -/
abbrev argRefs : List (Ref sig .tc) := [main_arg0]

theorem host_fresh : (hostOps4 : List (HloOp τ sig (Elt F))).Forall fun op => op.fresh = ∅ := by
  simp only [List.Forall]; repeat' constructor
/-- What the host's last stretch writes. -/
abbrev hostWrites : List (Ref sig .tc) := [main_v4]
theorem host_writes : (hostOps4 : List (HloOp τ sig (Elt F))).Forall fun op => op.writes ⊆ (hostWrites.map (Proc.devRef (τ := τ) .tc)).toFinset :=
  StableHlo.forall_writes_sub_of_map rfl
theorem host_args : ∀ a ∈ argRefs, a ∉ hostWrites := ListAll.forall_mem_of_all_decide (by decide +kernel)

/-- The buffers at launch. -/
abbrev W0 : Dev nD → Valuation τ sig (Elt F) := fun c b => (s₀ m ρ).mem ((c : Dev nD), b)
theorem args0 (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b

/-- The buffers when region 0 is left: its arrays as its write-backs leave them, the others as before. -/
def W1 (c : Dev nD) : Valuation τ sig (Elt F) :=
  Pipeline.withArrays spec0 c (W0 m ρ c) fun w => (dat0 (V0 m ρ) c).arrAt w cfg0.N
theorem arr1 (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem apart1 (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- What region 0 does not write it keeps. -/
theorem kept1 (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (arr1 m ρ c w).trans (((dat0 (V0 m ρ) c).arrAt_in w (h w rfl) _).trans (A_eq0 (V0 m ρ) c w))
  · exact apart1 m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem args1 (c : Dev nD) : ∀ a ∈ argRefs, W1 m ρ c (Proc.devRef .tc a) = m ((c : Thread nD τ).loc a) :=
  fun a ha => (kept1 m ρ c a (argsIn0 a ha)).trans (args0 m ρ c a ha)
abbrev V1 : (c : Dev nD) → (b : Ref sig .tc) → Buf (Elt F) ((c : Thread nD τ).loc b) := fun c b => W1 m ρ c b
theorem leaves0 (c : Dev nD) (w : Fin cfg0.W) : (dat0 (V0 m ρ) c).arrAt w cfg0.N = V1 m ρ c (Pipeline.arrRef spec0 w) :=
  (arr1 m ρ c w).symm
theorem rest0 (c : Dev nD) : ∀ b, b ∉ Finset.univ.image (Pipeline.arrRef spec0) → V1 m ρ c b = V0 m ρ c b :=
  fun b hb => apart1 m ρ c b fun w e => hb (Finset.mem_image.mpr ⟨w, Finset.mem_univ _, e⟩)

/-- The buffers when region 1 is left: its arrays as its write-backs leave them, the others as before. -/
def W2 (c : Dev nD) : Valuation τ sig (Elt F) :=
  Pipeline.withArrays spec1 c (W1 m ρ c) fun w => (dat1 (V1 m ρ) c).arrAt w cfg1.N
theorem arr2 (c : Dev nD) (w : Fin cfg1.W) :
    W2 m ρ c (Proc.devRef .tc (Pipeline.arrRef spec1 w)) = (dat1 (V1 m ρ) c).arrAt w cfg1.N := by
  unfold W2; exact (dat1 (V1 m ρ) c).withArrays_arrAt launch₀1.sharedIn _ (A_eq1 (V1 m ρ) c) w
theorem apart2 (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- What region 1 does not write it keeps. -/
theorem kept2 (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (arr2 m ρ c w).trans (((dat1 (V1 m ρ) c).arrAt_in w (h w rfl) _).trans (A_eq1 (V1 m ρ) c w))
  · exact apart2 m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem args2 (c : Dev nD) : ∀ a ∈ argRefs, W2 m ρ c (Proc.devRef .tc a) = m ((c : Thread nD τ).loc a) :=
  fun a ha => (kept2 m ρ c a (argsIn1 a ha)).trans (args1 m ρ c a ha)
abbrev V2 : (c : Dev nD) → (b : Ref sig .tc) → Buf (Elt F) ((c : Thread nD τ).loc b) := fun c b => W2 m ρ c b
theorem leaves1 (c : Dev nD) (w : Fin cfg1.W) : (dat1 (V1 m ρ) c).arrAt w cfg1.N = V2 m ρ c (Pipeline.arrRef spec1 w) :=
  (arr2 m ρ c w).symm
theorem rest1 (c : Dev nD) : ∀ b, b ∉ Finset.univ.image (Pipeline.arrRef spec1) → V2 m ρ c b = V1 m ρ c b :=
  fun b hb => apart2 m ρ c b fun w e => hb (Finset.mem_image.mpr ⟨w, Finset.mem_univ _, e⟩)

/-- The buffers when region 2 is left: its arrays as its write-backs leave them, the others as before. -/
def W3 (c : Dev nD) : Valuation τ sig (Elt F) :=
  Pipeline.withArrays spec2 c (W2 m ρ c) fun w => (dat2 (V2 m ρ) c).arrAt w cfg2.N
theorem arr3 (c : Dev nD) (w : Fin cfg2.W) :
    W3 m ρ c (Proc.devRef .tc (Pipeline.arrRef spec2 w)) = (dat2 (V2 m ρ) c).arrAt w cfg2.N := by
  unfold W3; exact (dat2 (V2 m ρ) c).withArrays_arrAt launch₀2.sharedIn _ (A_eq2 (V2 m ρ) c) w
theorem apart3 (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- What region 2 does not write it keeps. -/
theorem kept3 (c : Dev nD) (r : Ref sig .tc) (h : ∀ w : Fin cfg2.W, Pipeline.arrRef spec2 w = r → (cfg2.win w).isOut = false) :
    W3 m ρ c (Proc.devRef .tc r) = W2 m ρ c (Proc.devRef .tc r) := by
  by_cases hw : ∃ w : Fin cfg2.W, Pipeline.arrRef spec2 w = r
  · obtain ⟨w, rfl⟩ := hw
    exact (arr3 m ρ c w).trans (((dat2 (V2 m ρ) c).arrAt_in w (h w rfl) _).trans (A_eq2 (V2 m ρ) c w))
  · exact apart3 m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem args3 (c : Dev nD) : ∀ a ∈ argRefs, W3 m ρ c (Proc.devRef .tc a) = m ((c : Thread nD τ).loc a) :=
  fun a ha => (kept3 m ρ c a (argsIn2 a ha)).trans (args2 m ρ c a ha)
abbrev V3 : (c : Dev nD) → (b : Ref sig .tc) → Buf (Elt F) ((c : Thread nD τ).loc b) := fun c b => W3 m ρ c b
theorem leaves2 (c : Dev nD) (w : Fin cfg2.W) : (dat2 (V2 m ρ) c).arrAt w cfg2.N = V3 m ρ c (Pipeline.arrRef spec2 w) :=
  (arr3 m ρ c w).symm
theorem rest2 (c : Dev nD) : ∀ b, b ∉ Finset.univ.image (Pipeline.arrRef spec2) → V3 m ρ c b = V2 m ρ c b :=
  fun b hb => apart3 m ρ c b fun w e => hb (Finset.mem_image.mpr ⟨w, Finset.mem_univ _, e⟩)

/-- The buffers when region 3 is left: its arrays as its write-backs leave them, the others as before. -/
def W4 (c : Dev nD) : Valuation τ sig (Elt F) :=
  Pipeline.withArrays spec3 c (W3 m ρ c) fun w => (dat3 (V3 m ρ) c).arrAt w cfg3.N
theorem arr4 (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem apart4 (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- What region 3 does not write it keeps. -/
theorem kept4 (c : Dev nD) (r : Ref sig .tc) (h : ∀ w : Fin cfg3.W, Pipeline.arrRef spec3 w = r → (cfg3.win w).isOut = false) :
    W4 m ρ c (Proc.devRef .tc r) = W3 m ρ c (Proc.devRef .tc r) := by
  by_cases hw : ∃ w : Fin cfg3.W, Pipeline.arrRef spec3 w = r
  · obtain ⟨w, rfl⟩ := hw
    exact (arr4 m ρ c w).trans (((dat3 (V3 m ρ) c).arrAt_in w (h w rfl) _).trans (A_eq3 (V3 m ρ) c w))
  · exact apart4 m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem args4 (c : Dev nD) : ∀ a ∈ argRefs, W4 m ρ c (Proc.devRef .tc a) = m ((c : Thread nD τ).loc a) :=
  fun a ha => (kept4 m ρ c a (argsIn3 a ha)).trans (args3 m ρ c a ha)
abbrev V4 : (c : Dev nD) → (b : Ref sig .tc) → Buf (Elt F) ((c : Thread nD τ).loc b) := fun c b => W4 m ρ c b
theorem leaves3 (c : Dev nD) (w : Fin cfg3.W) : (dat3 (V3 m ρ) c).arrAt w cfg3.N = V4 m ρ c (Pipeline.arrRef spec3 w) :=
  (arr4 m ρ c w).symm
theorem rest3 (c : Dev nD) : ∀ b, b ∉ Finset.univ.image (Pipeline.arrRef spec3) → V4 m ρ c b = V3 m ρ c b :=
  fun b hb => apart4 m ρ c b fun w e => hb (Finset.mem_image.mpr ⟨w, Finset.mem_univ _, e⟩)

/-- The buffers at the return. -/
abbrev W5 : Dev nD → Valuation τ sig (Elt F) := fun c => StableHlo.after hostOps4 (W4 m ρ c)
theorem kept5 (c : Dev nD) (r : Ref sig .tc) (h : r ∉ hostWrites) : W5 m ρ c (Proc.devRef .tc r) = W4 m ρ c (Proc.devRef .tc r) :=
  StableHlo.after_of_writes_sub hostOps4 _ host_writes h
theorem args5 (c : Dev nD) : ∀ a ∈ argRefs, W5 m ρ c (Proc.devRef .tc a) = m ((c : Thread nD τ).loc a) :=
  fun a ha => (kept5 m ρ c a (host_args a ha)).trans (args4 m ρ c a ha)

abbrev adm : (p : Fin 4) → (pcfgs (F := F) p).Adm := fun p => (cfgs p).toPCfg_adm
/-- The four regions' proof data. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
abbrev 𝒱₀ : Variants := Variants.none
abbrev L : GSem nD τ sig → Finset Unit := fun _ => ∅
abbrev lv : GSem nD τ sig → Unit → ℕ := fun _ _ => 0
/-- What rides along beside the buffers: the generator's register, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 as a segment: from the buffers at `W0` to the buffers at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (leaves0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: from the buffers at `W1` to the buffers at `W2`. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V1 m ρ c) (V2 m ρ c) ((pdats m ρ 1 c).arrAt · cfg1.N) (leaves1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: from the buffers at `W2` to the buffers at `W3`. -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V2 m ρ c) (A_eq2 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V2 m ρ c) (V3 m ρ c) ((pdats m ρ 2 c).arrAt · cfg2.N) (leaves2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: from the buffers at `W3` to the buffers at `W4`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) (A_eq3 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (leaves3 m ρ c) (rest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five segments. -/
abbrev segs : List (Pipeline.Seg (pcfgs (F := F)) adm (pdats m ρ) () defs₀ 𝒱₀ L lv) :=
  [ .region (reg0 m ρ), .region (reg1 m ρ), .region (reg2 m ρ), .region (reg3 m ρ), .host (hseg hostOps4 hostOps4_sub host_fresh (W4 m ρ)) ]
theorem main_run (c : Dev nD) : main (F := F) c = Pipeline.Seg.run (segs m ρ) := (main_chain c).trans (by chain_rfl)
theorem no_unscoped : ∀ sm : SemLoc sig, sm.isScoped .tc = true := by decide

set_option backward.isDefEq.respectTransparency.types false in
/-- The whole run: from any memory with zero counters every execution ends, the argument as launched, the result as the last stretch leaves it, and
    every counter at zero. -/
theorem run : θ_run defs (onTc (τ := τ) (main (F := F))) ⟨m, fun _ => 0, ρ⟩ (fun r => (∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c => ⟨h c _ (mem_uc main_v4 (by decide)),
      (h c _ (mem_uc main_arg0 (by decide))).trans (args5 m ρ c main_arg0 (by decide))⟩, funext fun g => hz g (.inr (no_unscoped g.2))⟩)

/-- Every execution leaves the argument as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run _ _ _).mono (fun r h => ⟨fun c => (h.1 c).2, h.2⟩) (run m ρ)

end Cert.KernelIdeal.Hand

end
-- ==== Proof.Frames.lean ====
/- The claims about how the three programs end, and about the two named literals. The kernel's two
   printings end by the run put together in `K/Run` and `KI/Run`; the reference ends by its host run. -/
module

public import proofs.«01_k».proof.Defs
public import proofs.«01_k».proof.Proof.Gen.ReferenceIdeal.Run
public import proofs.«01_k».proof.Proof.K.Run
public import proofs.«01_k».proof.Proof.KI.Run
public import Idealize.ShloMosaic.Lib.Quiescent

@[expose] public section

noncomputable section

namespace Cert.Ends

open Idealize.ShloMosaic Idealize.ShloMosaic.TcCoe Idealize.SL.Sem

/-- The kernel, at bit patterns, ends with its argument and counters as they were. -/
theorem kernel : Cert.quiescent_Kernel := fun m ρ _ => Cert.Kernel.Hand.frame m ρ

/-- So does the kernel read at extended reals. -/
theorem kernelIdeal : Cert.quiescent_KernelIdeal := fun m ρ _ => Cert.KernelIdeal.Hand.frame m ρ

/-- And the reference: host operations only, with no counter at all. -/
theorem reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- Each of the two named literals means the real its table entry gives it. -/
theorem names : Cert.preserves_Kernel_KernelIdeal :=
  ⟨IdealRules.named_const.statement _ _ _ _ _ rfl, IdealRules.named_const.statement _ _ _ _ _ rfl⟩

end Cert.Ends

end
-- ==== Proof.Val.Loss.lean ====
/- The loss as a real number. A row of the input is divided by its norm (at least a small positive constant); the
   quotients are real numbers whatever the row holds, so similarities, exponentials and the loss are real too.
   Rows are counted by natural numbers here; past the last row everything is zero. -/
module

public import Idealize.ShloMosaic.PureOps.Ideal
public import Mathlib.Analysis.SpecialFunctions.Log.Basic
public import Mathlib.Analysis.SpecialFunctions.Pow.Real

@[expose] public section

noncomputable section

namespace Cert.Loss

open Idealize.ShloMosaic

/-- A finite sum of real numbers, read as an extended real, is the sum of the terms so read. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The least norm. -/
def eps : EReal := Ideal.ofBits .f32 0x322BCC77#32

theorem eps_real : ∃ r : ℝ, 0 < r ∧ eps = (r : EReal) := by
  refine ⟨11258999 / 2 ^ 50, by norm_num, ?_⟩
  simp [eps, Ideal.ofBits, Ideal.ieee, -EReal.coe_mul]
  norm_num

theorem ofBits_64 : Ideal.ofBits .f32 0x42800000#32 = ((64 : ℝ) : EReal) := by
  simp [Ideal.ofBits, Ideal.ieee, -EReal.coe_mul]
  norm_num

/-- The temperature. -/
def T : ℝ := 13421773 / 134217728

theorem T_pos : 0 < T := by norm_num [T]

theorem ofBits_T : Ideal.ofBits .f32 0x3DCCCCCD#32 = (T : EReal) := by
  simp [Ideal.ofBits, Ideal.ieee, -EReal.coe_mul, T]
  norm_num

theorem ofBits_8192 : Ideal.ofBits .f32 0x46000000#32 = ((8192 : ℝ) : EReal) := by
  simp [Ideal.ofBits, Ideal.ieee, -EReal.coe_mul]
  norm_num

theorem ofBits_inv8192 : Ideal.ofBits .f32 0x39000000#32 = ((1 / 8192 : ℝ) : EReal) := by
  simp [Ideal.ofBits, Ideal.ieee, -EReal.coe_mul]
  norm_num

/-- The norm of a row, at least `eps`. -/
def norm (v : Fin 2048 → EReal) : EReal := max (Ideal.sqrt (∑ k, v k * v k)) eps

theorem mul_self_nonneg' (a : EReal) : 0 ≤ a * a := by
  induction a using EReal.rec with
  | bot => simp
  | top => simp
  | coe r => rw [← EReal.coe_mul]; exact_mod_cast mul_self_nonneg r

theorem norm_cases (v : Fin 2048 → EReal) :
    (∃ (u : Fin 2048 → ℝ) (n : ℝ), 0 < n ∧ norm v = n ∧ ∀ k, v k = (u k : EReal)) ∨ norm v = ⊤ := by
  by_cases h : ∀ k, v k ≠ ⊤ ∧ v k ≠ ⊥
  · left
    obtain ⟨r, hr, he⟩ := eps_real
    have hv : ∀ k, v k = ((v k).toReal : EReal) := fun k => (EReal.coe_toReal (h k).1 (h k).2).symm
    refine ⟨fun k => (v k).toReal, max (Real.sqrt (∑ k, (v k).toReal * (v k).toReal)) r, lt_max_of_lt_right hr, ?_, hv⟩
    have hs : ∑ k, v k * v k = ((∑ k, (v k).toReal * (v k).toReal : ℝ) : EReal) := by
      rw [coe_sum]
      exact Finset.sum_congr rfl fun k _ => by rw [EReal.coe_mul, ← hv k]
    have h0 : ¬ (∑ k, (v k).toReal * (v k).toReal : ℝ) < 0 := not_lt.2 (Finset.sum_nonneg fun k _ => mul_self_nonneg _)
    rw [norm, hs, he, Ideal.sqrt_coe, if_neg h0]
    exact (Monotone.map_max EReal.coe_strictMono.monotone).symm
  · right
    push Not at h
    obtain ⟨k, hk⟩ := h
    have ht : v k * v k = ⊤ := by
      by_cases hkt : v k = ⊤
      · rw [hkt]; rfl
      · rw [hk hkt]; rfl
    have hs : ∑ k, v k * v k = ⊤ := by
      refine top_le_iff.1 ?_
      rw [← ht]
      exact Finset.single_le_sum (f := fun k => v k * v k) (fun i _ => mul_self_nonneg' (v i)) (Finset.mem_univ k)
    rw [norm, hs]
    simp

/-- A row over its norm is real; scaling the reciprocal of the norm by 64 first scales the quotients by 64. -/
theorem quotient (v : Fin 2048 → EReal) : ∀ k, ∃ w : ℝ, Ideal.div (v k) (norm v) = (w : EReal) ∧
    v k * Ideal.div ((64 : ℝ) : EReal) (norm v) = ((64 * w : ℝ) : EReal) := by
  intro k
  rcases norm_cases v with ⟨u, n, hn, he, hv⟩ | h
  · refine ⟨u k * (1 / n), ?_, ?_⟩
    · rw [he, hv, Ideal.div_coe hn.ne', EReal.coe_mul]
    · rw [he, hv, Ideal.div_coe hn.ne', ← EReal.coe_mul, ← EReal.coe_mul]
      congr 1
      ring
  · refine ⟨0, ?_, ?_⟩ <;> simp [h, Ideal.div]

/-- The input's rows over their norms. -/
def y (x : Fin 8192 → Fin 2048 → EReal) (i : ℕ) (k : Fin 2048) : ℝ :=
  if h : i < 8192 then (Ideal.div (x ⟨i, h⟩ k) (norm (x ⟨i, h⟩))).toReal else 0

theorem y_div (x : Fin 8192 → Fin 2048 → EReal) (i : Fin 8192) (k : Fin 2048) :
    Ideal.div (x i k) (norm (x i)) = (y x i k : EReal) := by
  obtain ⟨w, hw, -⟩ := quotient (x i) k
  simp only [y, i.isLt, dif_pos, Fin.eta, hw, EReal.toReal_coe]

theorem y_scaled (x : Fin 8192 → Fin 2048 → EReal) (i : Fin 8192) (k : Fin 2048) :
    x i k * Ideal.div ((64 : ℝ) : EReal) (norm (x i)) = ((64 * y x i k : ℝ) : EReal) := by
  obtain ⟨w, hw, hs⟩ := quotient (x i) k
  have := y_div x i k
  rw [hw] at this
  rw [hs, EReal.coe_eq_coe_iff.1 this]

section

variable (y : ℕ → Fin 2048 → ℝ)

/-- The similarity of two rows. -/
def sim (i j : ℕ) : ℝ := ∑ k, y i k * y j k

theorem sim_comm (i j : ℕ) : sim y i j = sim y j i := Finset.sum_congr rfl fun _ _ => mul_comm _ _

/-- The exponential of a similarity over the temperature. -/
def E (i j : ℕ) : ℝ := Real.exp (sim y i j / T)

theorem E_comm (i j : ℕ) : E y i j = E y j i := by rw [E, sim_comm, E]

theorem E_pos (i j : ℕ) : 0 < E y i j := Real.exp_pos _

/-- The denominator of row `i`: its exponentials with every other row. -/
def denom (i : ℕ) : ℝ := ∑ j ∈ Finset.range 8192, if j = i then 0 else E y i j

theorem sum_others {s : Finset ℕ} {i : ℕ} (hi : i ∈ s) (f : ℕ → ℝ) : (∑ j ∈ s, if j = i then 0 else f j) = (∑ j ∈ s, f j) - f i := by
  have h : ∀ j ∈ s, (if j = i then 0 else f j) = f j - if j = i then f j else 0 := fun j _ => by split <;> simp
  rw [Finset.sum_congr rfl h, Finset.sum_sub_distrib, Finset.sum_ite_eq' s i f, if_pos hi]

theorem denom_eq {i : ℕ} (hi : i < 8192) : denom y i = (∑ j ∈ Finset.range 8192, E y i j) - E y i i :=
  sum_others (Finset.mem_range.2 hi) _

theorem denom_pos (i : ℕ) : 0 < denom y i := by
  refine Finset.sum_pos' (fun j _ => ?_) ?_
  · split
    · exact le_refl _
    · exact (E_pos y i j).le
  · by_cases h : i = 0
    · exact ⟨1, Finset.mem_range.2 (by norm_num), by rw [if_neg (by omega)]; exact E_pos y i 1⟩
    · exact ⟨0, Finset.mem_range.2 (by norm_num), by rw [if_neg (by omega)]; exact E_pos y i 0⟩

/-- The loss: over the first half of the rows, the log of the denominator less the pair's similarity over the
    temperature; the total over the number of rows. -/
def loss : ℝ := (∑ i ∈ Finset.range 4096, (Real.log (denom y i) - sim y i (i + 4096) / T)) * (1 / 8192)

end

/-- 128-lane slices of a row, lane by lane, make up the row. -/
theorem lanes (M : ℕ) (g : ℕ → ℝ) :
    ∑ l ∈ Finset.range 128, ∑ m ∈ Finset.range M, g (128 * m + l) = ∑ q ∈ Finset.range (128 * M), g q := by
  rw [Finset.sum_comm]
  induction M with
  | zero => simp
  | succ M ih => rw [Finset.sum_range_succ, ih, Nat.mul_succ, Finset.sum_range_add]

/-- 8-row slices likewise. -/
theorem sublanes (M : ℕ) (g : ℕ → ℝ) :
    ∑ s ∈ Finset.range 8, ∑ m ∈ Finset.range M, g (8 * m + s) = ∑ q ∈ Finset.range (8 * M), g q := by
  rw [Finset.sum_comm]
  induction M with
  | zero => simp
  | succ M ih => rw [Finset.sum_range_succ, ih, Nat.mul_succ, Finset.sum_range_add]

end Cert.Loss

end
-- ==== Proof.Val.Pay1.lean ====
/- What the first two kernels store, read at an index over extended reals. A tile's product at `(r, q)` is 4096 times the
   similarity of the two rows, for both factors hold rows scaled by 64. -/
module

public import proofs.«01_k».proof.Proof.Gen.KernelIdeal.Skeleton
public import proofs.«01_k».proof.Proof.Val.Loss
public import Idealize.ShloMosaic.Lib.Pointwise

@[expose] public section

set_option maxRecDepth 16384

noncomputable section

namespace Cert.KernelIdeal.Val

open Cert.KernelIdeal Cert.KernelIdeal.Gen Idealize.ShloMosaic

/-- The exponent's scale, on the base 2. -/
theorem exp2_scale : Named.named (F := Ideal) κ "exp2_scale" (φ := .f32) 0x3B66D4CA#32 = ((32768 / 13421773 * (Real.log 2)⁻¹ : ℝ) : EReal) :=
  IdealRules.named_const.ideal_named_scalar _ _ _ _ rfl

/-- The positives' scale. -/
theorem pos_scale : Named.named (F := Ideal) κ "pos_scale" (φ := .f32) 0x3B200000#32 = ((32768 / 13421773 : ℝ) : EReal) :=
  IdealRules.named_const.ideal_named_scalar _ _ _ _ rfl

/-- A block of columns, each a row of the input over its norm and scaled by 64, the first being row `a`. -/
def Cols (y : ℕ → Fin 2048 → ℝ) (a : ℕ) {n : ℕ} (A : (⟨2, ![2048, n]⟩ : Shape).Idx → EReal) : Prop :=
  ∀ (k : Fin 2048) (r : Fin n), A (ix2 k r) = ((64 * y (a + r) k : ℝ) : EReal)

theorem product (y : ℕ → Fin 2048 → ℝ) (i j : ℕ) :
    ∑ k, ((64 * y i k : ℝ) : EReal) * ((64 * y j k : ℝ) : EReal) = ((4096 * Loss.sim y i j : ℝ) : EReal) := by
  simp only [← EReal.coe_mul, ← Loss.coe_sum]
  rw [Loss.sim, Finset.mul_sum]
  exact congrArg _ (Finset.sum_congr rfl fun k _ => by ring)

theorem exponential (y : ℕ → Fin 2048 → ℝ) (i j : ℕ) :
    Ideal.exp2 (((4096 * Loss.sim y i j : ℝ) : EReal) * ((32768 / 13421773 * (Real.log 2)⁻¹ : ℝ) : EReal)) = (Loss.E y i j : EReal) := by
  rw [← EReal.coe_mul, Ideal.exp2_coe]
  show ((2 ^ (4096 * Loss.sim y i j * (32768 / 13421773 * (Real.log 2)⁻¹)) : ℝ) : EReal) = _
  rw [Real.rpow_def_of_pos (by norm_num), Loss.E, Loss.T]
  have : Real.log 2 ≠ 0 := (Real.log_pos (by norm_num)).ne'
  congr 2
  field_simp
  norm_num
  ring

theorem exponential_op (y : ℕ → Fin 2048 → ℝ) (i j : ℕ) :
    FloatOps.exp2 (F := Ideal) (φ := .f32) (((4096 * Loss.sim y i j : ℝ) : EReal) * ((32768 / 13421773 * (Real.log 2)⁻¹ : ℝ) : EReal)) = (Loss.E y i j : EReal) :=
  exponential y i j

section

variable (y : ℕ → Fin 2048 → ℝ) (a b : ℕ) (A : FVec Ideal S2048x1024 .fp8e4m3) (B : FVec Ideal S2048x2048 .fp8e4m3)
  (hA : Cols y a A) (hB : Cols y b B)
include hA hB

theorem k1_pay3_apply (r : Fin 1024) (q : Fin 2048) : k1_pay3 (F := Ideal) A B (ix2 r q) = ((4096 * Loss.sim y (a + r) (b + q) : ℝ) : EReal) := by
  pointwise [k1_pay3]
  simp only [hA _ _, hB _ _, product]

theorem k1_pay7_apply (r : Fin 1024) (q : Fin 2048) : k1_pay7 (F := Ideal) A B (ix2 r q) = ((4096 * Loss.sim y (a + r) (b + q) : ℝ) : EReal) := by
  pointwise [k1_pay7]
  simp only [hA _ _, hB _ _, product]

theorem k1_pay4_apply (r : Fin 1024) (l : Fin 128) :
    k1_pay4 (F := Ideal) A B (ix2 r l) = ((∑ m ∈ Finset.range 16, Loss.E y (a + r) (b + (128 * m + l)) : ℝ) : EReal) := by
  pointwise [k1_pay4]
  simp only [k1_pay3_apply y a b A B hA hB, exp2_scale, exponential_op, ← EReal.coe_add, Finset.sum_range_succ, Finset.sum_range_zero,
    mul_zero, zero_add, Nat.reduceMul, mul_one]

theorem k1_pay11_apply (r : Fin 1024) (l : Fin 128) :
    k1_pay11 (F := Ideal) (k1_pay8 A B) (k1_pay9 A B) (k1_pay10 A B) (ix2 r l)
      = ((∑ m ∈ Finset.range 16, Loss.E y (a + r) (b + (128 * m + l)) : ℝ) : EReal) := by
  pointwise [k1_pay11, k1_pay8, k1_pay9, k1_pay10]
  simp only [k1_pay7_apply y a b A B hA hB, exp2_scale, exponential_op, ← EReal.coe_add, Finset.sum_range_succ, Finset.sum_range_zero,
    mul_zero, zero_add, Nat.reduceMul, mul_one]

end

/-- The word test for a positive pair, as an equality of positions. -/
theorem positive (J n b r : ℕ) (hJ : J < 2) (hn : n < 2048) (hb : b < 8192) (hr : r < 1024) (v : ℝ) :
    Scalar.select (IntOp.cmpi .eq (IntOp.addi (Scalar.addi 4096#32 (Scalar.muli (BitVec.ofNat 32 J) 2048#32)) (BitVec.ofNat 32 n))
      (IntOp.addi (IntOp.addi (BitVec.ofNat 32 b) (BitVec.ofNat 32 r)) 4096#32)) ((4096 * v : ℝ) : EReal) (0 : EReal)
      = ((4096 * Loss.T * (if 2048 * J + n = b + r then v / Loss.T else 0) : ℝ) : EReal) := by
  have hl : IntOp.addi (Scalar.addi 4096#32 (Scalar.muli (BitVec.ofNat 32 J) 2048#32)) (BitVec.ofNat 32 n) = BitVec.ofNat 32 (4096 + J * 2048 + n) := by
    show 4096#32 + BitVec.ofNat 32 J * 2048#32 + BitVec.ofNat 32 n = _
    rw [BitVec.ofNat_add, BitVec.ofNat_add, BitVec.ofNat_mul]
  have hr' : IntOp.addi (IntOp.addi (BitVec.ofNat 32 b) (BitVec.ofNat 32 r)) 4096#32 = BitVec.ofNat 32 (b + r + 4096) := by
    show BitVec.ofNat 32 b + BitVec.ofNat 32 r + 4096#32 = _
    rw [BitVec.ofNat_add, BitVec.ofNat_add]
  rw [hl, hr']
  by_cases h : 2048 * J + n = b + r
  · rw [if_pos h, show 4096 + J * 2048 + n = b + r + 4096 by omega]
    have : 4096 * Loss.T * (v / Loss.T) = 4096 * v := by have := Loss.T_pos.ne'; field_simp
    rw [this]
    simp [IntOp.cmpi, Scalar.select]
  · rw [if_neg h]
    have hne : BitVec.ofNat 32 (4096 + J * 2048 + n) ≠ BitVec.ofNat 32 (b + r + 4096) := fun e => by
      have := congrArg BitVec.toNat e
      rw [BitVec.toNat_ofNat, BitVec.toNat_ofNat, Nat.mod_eq_of_lt (by omega), Nat.mod_eq_of_lt (by omega)] at this
      omega
    simp [IntOp.cmpi, Scalar.select, beq_eq_false_iff_ne.2 hne]

/-- The positives a point of the grid adds to its first rows: at most one, of the lane whose column is 4096 rows on. -/
theorem k1_pay1_apply (y : ℕ → Fin 2048 → ℝ) (a c J b : ℕ) (hJ : J < 2) (hb : b < 8192) (s : FVec Ideal S1024x2048 .f32)
    (hs : ∀ (r : Fin 1024) (q : Fin 2048), s (ix2 r q) = ((4096 * Loss.sim y (a + r) (c + q) : ℝ) : EReal))
    (p : FVec Ideal S1024x128 .f32) (r : Fin 1024) (l : Fin 128) :
    k1_pay1 (F := Ideal) (BitVec.ofNat 32 J) s (BitVec.ofNat 32 b) p (ix2 r l) = p (ix2 r l)
      + ((∑ m ∈ Finset.range 16, if 2048 * J + (128 * m + l) = b + r then Loss.sim y (a + r) (c + (128 * m + l)) / Loss.T else 0 : ℝ) : EReal) := by
  pointwise [k1_pay1]
  simp only [hs]
  have hl := l.isLt
  rw [positive J _ b r hJ (by omega) hb r.isLt, positive J _ b r hJ (by omega) hb r.isLt, positive J _ b r hJ (by omega) hb r.isLt, positive J _ b r hJ (by omega) hb r.isLt,
    positive J _ b r hJ (by omega) hb r.isLt, positive J _ b r hJ (by omega) hb r.isLt, positive J _ b r hJ (by omega) hb r.isLt, positive J _ b r hJ (by omega) hb r.isLt,
    positive J _ b r hJ (by omega) hb r.isLt, positive J _ b r hJ (by omega) hb r.isLt, positive J _ b r hJ (by omega) hb r.isLt, positive J _ b r hJ (by omega) hb r.isLt,
    positive J _ b r hJ (by omega) hb r.isLt, positive J _ b r hJ (by omega) hb r.isLt, positive J _ b r hJ (by omega) hb r.isLt, positive J _ b r hJ (by omega) hb r.isLt]
  simp only [pos_scale, Finset.sum_range_succ, Finset.sum_range_zero, mul_zero, zero_add, Nat.reduceMul, mul_one, ← EReal.coe_add, ← EReal.coe_mul]
  refine congrArg (fun v : ℝ => p (ix2 r l) + (v : EReal)) ?_
  simp only [← mul_add]
  rw [mul_comm, ← mul_assoc, show (32768 / 13421773 * (4096 * Loss.T) : ℝ) = 1 by norm_num [Loss.T], one_mul]

/-- The positives a point of the grid adds to its last rows. -/
theorem k1_pay2_apply (y : ℕ → Fin 2048 → ℝ) (a c J b : ℕ) (hJ : J < 2) (hb : b < 8192) (s : FVec Ideal S1024x2048 .f32)
    (hs : ∀ (r : Fin 1024) (q : Fin 2048), s (ix2 r q) = ((4096 * Loss.sim y (a + r) (c + q) : ℝ) : EReal))
    (p : FVec Ideal S1024x128 .f32) (r : Fin 1024) (l : Fin 128) :
    k1_pay2 (F := Ideal) (BitVec.ofNat 32 J) s (BitVec.ofNat 32 b) p (ix2 r l) = p (ix2 r l)
      + ((∑ m ∈ Finset.range 16, if 2048 * J + (128 * m + l) = b + r then Loss.sim y (a + r) (c + (128 * m + l)) / Loss.T else 0 : ℝ) : EReal) := by
  pointwise [k1_pay2]
  simp only [hs]
  have hl := l.isLt
  rw [positive J _ b r hJ (by omega) hb r.isLt, positive J _ b r hJ (by omega) hb r.isLt, positive J _ b r hJ (by omega) hb r.isLt, positive J _ b r hJ (by omega) hb r.isLt,
    positive J _ b r hJ (by omega) hb r.isLt, positive J _ b r hJ (by omega) hb r.isLt, positive J _ b r hJ (by omega) hb r.isLt, positive J _ b r hJ (by omega) hb r.isLt,
    positive J _ b r hJ (by omega) hb r.isLt, positive J _ b r hJ (by omega) hb r.isLt, positive J _ b r hJ (by omega) hb r.isLt, positive J _ b r hJ (by omega) hb r.isLt,
    positive J _ b r hJ (by omega) hb r.isLt, positive J _ b r hJ (by omega) hb r.isLt, positive J _ b r hJ (by omega) hb r.isLt, positive J _ b r hJ (by omega) hb r.isLt]
  simp only [pos_scale, Finset.sum_range_succ, Finset.sum_range_zero, mul_zero, zero_add, Nat.reduceMul, mul_one, ← EReal.coe_add, ← EReal.coe_mul]
  refine congrArg (fun v : ℝ => p (ix2 r l) + (v : EReal)) ?_
  simp only [← mul_add]
  rw [mul_comm, ← mul_assoc, show (32768 / 13421773 * (4096 * Loss.T) : ℝ) = 1 by norm_num [Loss.T], one_mul]

/-- Adding to what is there. -/
theorem k1_pay6_apply (v p : FVec Ideal S1024x128 .f32) (r : Fin 1024) (l : Fin 128) : k1_pay6 (F := Ideal) v p (ix2 r l) = p (ix2 r l) + v (ix2 r l) := by
  pointwise [k1_pay6]

theorem k1_pay13_apply (v : FVec Ideal S1024x2048 .f32) (v' v'' p : FVec Ideal S1024x128 .f32) (r : Fin 1024) (l : Fin 128) :
    k1_pay13 (F := Ideal) v v' v'' p (ix2 r l) = p (ix2 r l) + k1_pay11 (F := Ideal) v v' v'' (ix2 r l) := by
  pointwise [k1_pay13, k1_pay11]

theorem k1_pay5_apply (r : Fin 1024) (l : Fin 128) : k1_pay5 (F := Ideal) (ix2 r l) = 0 := by
  pointwise [k1_pay5]

theorem k1_pay12_apply (r : Fin 1024) (l : Fin 128) : k1_pay12 (F := Ideal) (ix2 r l) = 0 := by
  pointwise [k1_pay12]

/-- The first kernel's block: the rows over their norms, scaled by 64, as columns. -/
theorem k0_pay1_apply (x : FVec Ideal S256x2048 .f32) (k : Fin 2048) (r : Fin 256) :
    k0_pay1 (F := Ideal) x (ix2 k r) = x (ix2 r k) * Ideal.div ((64 : ℝ) : EReal) (Loss.norm fun k => x (ix2 r k)) := by
  pointwise [k0_pay1]
  rw [Loss.ofBits_64]
  rfl

end Cert.KernelIdeal.Val

end
-- ==== Proof.Val.Arr0.lean ====
/- The first region's result over extended reals: the rows of its argument over their norms, scaled by 64, transposed. -/
module

public import proofs.«01_k».proof.Proof.KI.Region0
public import proofs.«01_k».proof.Proof.Val.Pay1
public import Idealize.ShloMosaic.Lib.Pipeline.ValueKit

@[expose] public section

set_option maxRecDepth 16384

noncomputable section

namespace Cert.KernelIdeal.Val

open Cert.KernelIdeal Cert.KernelIdeal.Gen Cert.KernelIdeal.Hand Idealize.ShloMosaic Idealize.ShloMosaic.TcCoe
open Idealize.ShloMosaic.Pipeline (Dat)

/-- The argument as rows of extended reals. -/
def rows (x : FVec Ideal S8192x2048 .f32) : Fin 8192 → Fin 2048 → EReal := fun i k => x (ix2 i k)

/-- The rows as columns, scaled by 64. -/
def columns (y : ℕ → Fin 2048 → ℝ) : FVec Ideal S2048x8192 .fp8e4m3 := fun j => ((64 * y (j 1).val ⟨(j 0).val, (j 0).isLt⟩ : ℝ) : EReal)

theorem idx0 : ∀ t : Fin cfg0.N, win0_0.index t = ![t.val, 0] ∧ win0_1.index t = ![0, t.val] := (by decide +kernel : ∀ t : Fin grid0.N, _)

variable (V : (c : Dev nD) → (b : Ref sig .tc) → Buf (Elt Ideal) ((c : Thread nD τ).loc b))

theorem block0 (c : Dev nD) (t : Fin cfg0.N) (r : Fin 256) (k : Fin 2048) (h : 256 * t.val + r.val < 8192) :
    (show FVec Ideal S256x2048 .f32 from iblk0 V c 0 t) (ix2 r k) = (show FVec Ideal S8192x2048 .f32 from V c main_arg0) (ix2 ⟨256 * t.val + r.val, h⟩ k) := by
  blk_ext [iblk0, idx0 t]

theorem stored0 (c : Dev nD) (t : Fin cfg0.N) (k : Fin 2048) (r : Fin 256) :
    k0_pay1 (F := Ideal) (iblk0 V c 0 t) (ix2 k r) = ((64 * Loss.y (rows (V c main_arg0)) (256 * t.val + r.val) k : ℝ) : EReal) := by
  have ht : t.val < 32 := t.isLt
  have h : 256 * t.val + r.val < 8192 := by omega
  refine (k0_pay1_apply (iblk0 V c 0 t) k r).trans ?_
  refine Eq.trans ?_ (Loss.y_scaled (rows (V c main_arg0)) ⟨256 * t.val + r.val, h⟩ k)
  have hn : (fun k => (show FVec Ideal S256x2048 .f32 from iblk0 V c 0 t) (ix2 r k)) = rows (V c main_arg0) ⟨256 * t.val + r.val, h⟩ :=
    funext fun k => block0 V c t r k h
  exact congrArg₂ (fun (a : EReal) (v : Fin 2048 → EReal) => a * Ideal.div ((64 : ℝ) : EReal) (Loss.norm v)) (block0 V c t r k h) hn

theorem final0 (c : Dev nD) : (dat0 V c).arrAt 1 cfg0.N = columns (Loss.y (rows (V c main_arg0))) := by
  refine (dat0 V c).arrAt_eq_of_covers 1 _ (by decide +kernel) fun t _ y => ?_
  blk_simp
  rw [after0_1]
  unfold out0
  frame_out
  idx_vars y
  have ht : t.val < 32 := t.isLt
  have h : 256 * t.val + y1.val < 8192 := by omega
  have e : ((cfg0.win 1).blk t).view.emb (ix2 y0 y1) = (ix2 y0 ⟨256 * t.val + y1.val, h⟩ : S2048x8192.Idx) := by blk_ext [idx0 t]
  exact (stored0 V c t y0 y1).trans (congrArg (columns (Loss.y (rows (V c main_arg0)))) e).symm

end Cert.KernelIdeal.Val

end
-- ==== Proof.Val.Arr1.lean ====
/- The second region's results over extended reals, its argument being the scaled rows: lane by lane, the exponentials of a
   first-half row with the second half, and the row's positive pair. -/
module

public import proofs.«01_k».proof.Proof.KI.Region1
public import proofs.«01_k».proof.Proof.Val.Arr0

@[expose] public section

set_option maxRecDepth 16384

noncomputable section

namespace Cert.KernelIdeal.Val

open Cert.KernelIdeal Cert.KernelIdeal.Gen Cert.KernelIdeal.Hand Idealize.ShloMosaic Idealize.ShloMosaic.TcCoe
open Idealize.ShloMosaic.Pipeline (Dat)

theorem idx1 : ∀ t : Fin cfg1.N, win1_0.index t = ![0, t.val / 2] ∧ win1_1.index t = ![0, 2 + t.val % 2] ∧ win1_2.index t = ![t.val / 2, 0]
    ∧ win1_3.index t = ![t.val / 2, 0] ∧ (grid1.coords t 0).val = t.val / 2 ∧ (grid1.coords t 1).val = t.val % 2 := (by decide +kernel : ∀ t : Fin grid1.N, _)

theorem halves_lo (x : Vec Ideal S2048x128 .f32) (a b : Vec Ideal S1024x128 .f32) (r : Fin 1024) (l : Fin 128) (h : r.val < 2048) :
    halves (F := Ideal) x a b (ix2 ⟨r.val, h⟩ l) = a (ix2 r l) := by
  refine Eq.trans ?_ (congrFun (halves_top x a b) (ix2 r l))
  exact congrArg (halves x a b) (funext fun d => Fin.ext (by
    match d with
    | ⟨0, _⟩ => show r.val = 0 + 1 * r.val; omega
    | ⟨1, _⟩ => show l.val = 0 + 1 * l.val; omega))

theorem halves_hi (x : Vec Ideal S2048x128 .f32) (a b : Vec Ideal S1024x128 .f32) (r : Fin 1024) (l : Fin 128) (h : 1024 + r.val < 2048) :
    halves (F := Ideal) x a b (ix2 ⟨1024 + r.val, h⟩ l) = b (ix2 r l) := by
  refine Eq.trans ?_ (congrFun (halves_bottom x a b) (ix2 r l))
  exact congrArg (halves x a b) (funext fun d => Fin.ext (by
    match d with
    | ⟨0, _⟩ => show 1024 + r.val = 1024 + 1 * r.val; omega
    | ⟨1, _⟩ => show l.val = 0 + 1 * l.val; omega))

/-- A row of the first or of the last 1024. -/
theorem row_cases (R : Fin 2048) : (∃ (r : Fin 1024) (h : r.val < 2048), R = ⟨r.val, h⟩) ∨ ∃ (r : Fin 1024) (h : 1024 + r.val < 2048), R = ⟨1024 + r.val, h⟩ := by
  by_cases h : R.val < 1024
  · exact Or.inl ⟨⟨R.val, h⟩, R.isLt, rfl⟩
  · have := R.isLt
    exact Or.inr ⟨⟨R.val - 1024, by omega⟩, by show 1024 + (R.val - 1024) < 2048; omega, Fin.ext (by show R.val = 1024 + (R.val - 1024); omega)⟩

variable (V : (c : Dev nD) → (b : Ref sig .tc) → Buf (Elt Ideal) ((c : Thread nD τ).loc b)) (y : ℕ → Fin 2048 → ℝ)

theorem block1_0 (c : Dev nD) (hV : V c main_v0 = columns y) (t : Fin cfg1.N) : Cols y (2048 * (t.val / 2)) (n := 2048) (iblk1 V c 0 t) := by
  intro k q
  have ht : t.val < 4 := t.isLt
  have h : 2048 * (t.val / 2) + q.val < 8192 := by omega
  have e : (show FVec Ideal S2048x2048 .fp8e4m3 from iblk1 V c 0 t) (ix2 k q) = (show FVec Ideal S2048x8192 .fp8e4m3 from V c main_v0) (ix2 k ⟨2048 * (t.val / 2) + q.val, h⟩) := by
    blk_ext [iblk1, idx1 t]
  refine e.trans ?_
  rw [hV]
  rfl

theorem block1_1 (c : Dev nD) (hV : V c main_v0 = columns y) (t : Fin cfg1.N) : Cols y (4096 + 2048 * (t.val % 2)) (n := 2048) (iblk1 V c 1 t) := by
  intro k q
  have ht : t.val < 4 := t.isLt
  have h : 4096 + 2048 * (t.val % 2) + q.val < 8192 := by omega
  have e : (show FVec Ideal S2048x2048 .fp8e4m3 from iblk1 V c 1 t) (ix2 k q) = (show FVec Ideal S2048x8192 .fp8e4m3 from V c main_v0) (ix2 k ⟨4096 + 2048 * (t.val % 2) + q.val, h⟩) := by
    blk_ext [iblk1, idx1 t]
  refine e.trans ?_
  rw [hV]
  rfl

theorem cols_a {a : ℕ} {x : Vec Ideal S2048x2048 .fp8e4m3} (h : Cols y a x) : Cols y a (n := 1024) (View.ld x r1a) := by
  intro k q
  refine Eq.trans ?_ (h k ⟨q.val, by omega⟩)
  exact congrArg x (funext fun d => Fin.ext (by
    match d with
    | ⟨0, _⟩ => show 0 + 1 * k.val = k.val; omega
    | ⟨1, _⟩ => show 0 + 1 * q.val = q.val; omega))

theorem cols_b {a : ℕ} {x : Vec Ideal S2048x2048 .fp8e4m3} (h : Cols y a x) : Cols y (a + 1024) (n := 1024) (View.ld x r1b) := by
  intro k q
  refine Eq.trans ?_ ((h k ⟨1024 + q.val, by omega⟩).trans (by show _ = ((64 * y (a + 1024 + q.val) k : ℝ) : EReal); rw [add_assoc]))
  exact congrArg x (funext fun d => Fin.ext (by
    match d with
    | ⟨0, _⟩ => show 0 + 1 * k.val = k.val; omega
    | ⟨1, _⟩ => show 1024 + 1 * q.val = 1024 + q.val; omega))

theorem cols_w {a : ℕ} {x : Vec Ideal S2048x2048 .fp8e4m3} (h : Cols y a x) : Cols y a (n := 2048) (View.ld x r1w) := by
  intro k q
  refine Eq.trans ?_ (h k q)
  exact congrArg x (funext fun d => Fin.ext (by
    match d with
    | ⟨0, _⟩ => show 0 + 1 * k.val = k.val; omega
    | ⟨1, _⟩ => show 0 + 1 * q.val = q.val; omega))

/-- Row `R`'s exponentials at lane `l` of the 2048 columns from `b` on. -/
def laneSum (R b l : ℕ) : ℝ := ∑ m ∈ Finset.range 16, Loss.E y R (b + (128 * m + l))

/-- Row `R`'s positive pair, if it is at lane `l` of the 2048 columns of block `J` of the second half. -/
def lanePos (R J l : ℕ) : ℝ := ∑ m ∈ Finset.range 16, if 2048 * J + (128 * m + l) = R then Loss.sim y R (4096 + 2048 * J + (128 * m + l)) / Loss.T else 0

theorem sums1_apply {a b : ℕ} {x0 x1 : Vec Ideal S2048x2048 .fp8e4m3} (h0 : Cols y a x0) (h1 : Cols y b x1) (R : Fin 2048) (l : Fin 128) :
    sums1 (F := Ideal) x0 x1 (ix2 R l) = (laneSum y (a + R) b l : EReal) := by
  unfold sums1
  rcases row_cases R with ⟨r, h, rfl⟩ | ⟨r, h, rfl⟩
  · refine (halves_lo _ _ _ r l h).trans ?_
    exact k1_pay4_apply y a b _ _ (cols_a y h0) (cols_w y h1) r l
  · refine (halves_hi _ _ _ r l h).trans ?_
    refine (k1_pay11_apply y (a + 1024) b _ _ (cols_b y h0) (cols_w y h1) r l).trans ?_
    rw [laneSum, add_assoc]

theorem ld_lo (p : Vec Ideal S2048x128 .f32) (r : Fin 1024) (l : Fin 128) (h : r.val < 2048) : View.ld p r1lo (ix2 r l) = p (ix2 ⟨r.val, h⟩ l) :=
  congrArg p (funext fun d => Fin.ext (by
    match d with
    | ⟨0, _⟩ => show 0 + 1 * r.val = r.val; omega
    | ⟨1, _⟩ => show 0 + 1 * l.val = l.val; omega))

theorem ld_hi (p : Vec Ideal S2048x128 .f32) (r : Fin 1024) (l : Fin 128) (h : 1024 + r.val < 2048) : View.ld p r1hi (ix2 r l) = p (ix2 ⟨1024 + r.val, h⟩ l) :=
  congrArg p (funext fun d => Fin.ext (by
    match d with
    | ⟨0, _⟩ => show 1024 + 1 * r.val = 1024 + r.val; omega
    | ⟨1, _⟩ => show 0 + 1 * l.val = l.val; omega))

theorem addSums1_apply {a b : ℕ} {x0 x1 : Vec Ideal S2048x2048 .fp8e4m3} (h0 : Cols y a x0) (h1 : Cols y b x1) (p : Vec Ideal S2048x128 .f32)
    (R : Fin 2048) (l : Fin 128) : addSums1 (F := Ideal) x0 x1 p (ix2 R l) = p (ix2 R l) + (laneSum y (a + R) b l : EReal) := by
  unfold addSums1
  rcases row_cases R with ⟨r, h, rfl⟩ | ⟨r, h, rfl⟩
  · refine (halves_lo _ _ _ r l h).trans ?_
    refine (k1_pay6_apply _ _ r l).trans ?_
    exact congrArg₂ (fun u v : EReal => u + v) (ld_lo p r l h) (k1_pay4_apply y a b _ _ (cols_a y h0) (cols_w y h1) r l)
  · refine (halves_hi _ _ _ r l h).trans ?_
    refine (k1_pay13_apply _ _ _ _ r l).trans ?_
    refine congrArg₂ (fun u v : EReal => u + v) (ld_hi p r l h) ?_
    refine (k1_pay11_apply y (a + 1024) b _ _ (cols_b y h0) (cols_w y h1) r l).trans ?_
    rw [laneSum, add_assoc]

theorem clear1_apply (R : Fin 2048) (l : Fin 128) : clear1 (F := Ideal) (ix2 R l) = (0 : EReal) := by
  unfold clear1
  rcases row_cases R with ⟨r, h, rfl⟩ | ⟨r, h, rfl⟩
  · exact (halves_lo _ _ _ r l h).trans (k1_pay5_apply r l)
  · exact (halves_hi _ _ _ r l h).trans (k1_pay12_apply r l)

theorem base_lo (C : ℕ) : Scalar.addi (Scalar.muli (BitVec.ofNat 32 C) 2048#32) 0#32 = BitVec.ofNat 32 (2048 * C) := by
  show BitVec.ofNat 32 C * 2048#32 + 0#32 = _
  rw [mul_comm 2048 C, BitVec.ofNat_mul, BitVec.add_zero]

theorem base_hi (C : ℕ) : Scalar.addi (Scalar.muli (BitVec.ofNat 32 C) 2048#32) 1024#32 = BitVec.ofNat 32 (2048 * C + 1024) := by
  show BitVec.ofNat 32 C * 2048#32 + 1024#32 = _
  rw [mul_comm 2048 C, BitVec.ofNat_add, BitVec.ofNat_mul]

theorem addPos1_apply (i : grid1.Coords) {x0 x1 : Vec Ideal S2048x2048 .fp8e4m3} (h0 : Cols y (2048 * (i 0).val) x0)
    (h1 : Cols y (4096 + 2048 * (i 1).val) x1) (p : Vec Ideal S2048x128 .f32)
    (R : Fin 2048) (l : Fin 128) : addPos1 (F := Ideal) i x0 x1 p (ix2 R l) = p (ix2 R l) + (lanePos y (2048 * (i 0).val + R) (i 1).val l : EReal) := by
  have hC : (i 0).val < 2 := (i 0).isLt
  have hJ : (i 1).val < 2 := (i 1).isLt
  unfold addPos1
  rcases row_cases R with ⟨r, h, rfl⟩ | ⟨r, h, rfl⟩
  · refine (halves_lo _ _ _ r l h).trans ?_
    rw [base_lo]
    refine (k1_pay1_apply y (2048 * (i 0).val) (4096 + 2048 * (i 1).val) (i 1).val (2048 * (i 0).val) hJ (by omega) _
      (fun r q => k1_pay3_apply y _ _ _ _ (cols_a y h0) (cols_w y h1) r q) _ r l).trans ?_
    exact congrArg₂ (fun u v : EReal => u + v) (ld_lo p r l h) rfl
  · refine (halves_hi _ _ _ r l h).trans ?_
    rw [base_hi]
    refine (k1_pay2_apply y (2048 * (i 0).val + 1024) (4096 + 2048 * (i 1).val) (i 1).val (2048 * (i 0).val + 1024) hJ (by omega) _
      (fun r q => k1_pay7_apply y _ _ _ _ (cols_b y h0) (cols_w y h1) r q) _ r l).trans ?_
    refine congrArg₂ (fun u v : EReal => u + v) (ld_hi p r l h) ?_
    rw [lanePos]
    simp only [add_assoc]

/-- Off the diagonal of the grid no lane holds a positive pair. -/
theorem lanePos_off {R J l : ℕ} (hl : l < 128) (h : R < 2048 * J ∨ 2048 * J + 2048 ≤ R) : lanePos y R J l = 0 :=
  Finset.sum_eq_zero fun m hm => if_neg (by have := Finset.mem_range.1 hm; omega)

/-- The first result: lane sums of the second half's two blocks. -/
def dacc : FVec Ideal S4096x128 .f32 := fun j => ((laneSum y (j 0).val (4096 + 2048 * 0) (j 1).val + laneSum y (j 0).val (4096 + 2048 * 1) (j 1).val : ℝ) : EReal)

/-- The second: the positive pair, at its lane. -/
def pacc : FVec Ideal S4096x128 .f32 := fun j => ((lanePos y (j 0).val 0 (j 1).val + lanePos y (j 0).val 1 (j 1).val : ℝ) : EReal)

section

variable (c : Dev nD) (hV : V c main_v0 = columns y)
include hV

theorem point1_first (t : Fin cfg1.N) (h : t.val % 2 = 0) (R : Fin 2048) (l : Fin 128) :
    (outs1 V c t.val t.isLt).1 (ix2 R l) = (laneSum y (2048 * (t.val / 2) + R) (4096 + 2048 * (t.val % 2)) l : EReal)
    ∧ (outs1 V c t.val t.isLt).2 (ix2 R l) = (lanePos y (2048 * (t.val / 2) + R) (t.val % 2) l : EReal) := by
  have ht : t.val < 4 := t.isLt
  obtain ⟨-, -, -, -, e0, e1⟩ := idx1 t
  rw [outs1_start V c t h]
  refine ⟨sums1_apply y (block1_0 V y c hV t) (block1_1 V y c hV t) R l, ?_⟩
  show (if t.val % 3 = 0 then addPos1 (grid1.coords t) (iblk1 V c 0 t) (iblk1 V c 1 t) clear1 else clear1) (ix2 R l) = _
  split
  · refine (addPos1_apply y (grid1.coords t) (by rw [e0]; exact block1_0 V y c hV t) (by rw [e1]; exact block1_1 V y c hV t) clear1 R l).trans ?_
    rw [clear1_apply, e0, e1, zero_add]
  · rw [clear1_apply, lanePos_off y l.isLt (by omega)]
    rfl

theorem point1_last (t : Fin cfg1.N) (h : t.val % 2 = 1) (R : Fin 2048) (l : Fin 128) :
    (outs1 V c t.val t.isLt).1 (ix2 R l) = ((laneSum y (2048 * (t.val / 2) + R) (4096 + 2048 * 0) l + laneSum y (2048 * (t.val / 2) + R) (4096 + 2048 * 1) l : ℝ) : EReal)
    ∧ (outs1 V c t.val t.isLt).2 (ix2 R l) = ((lanePos y (2048 * (t.val / 2) + R) 0 l + lanePos y (2048 * (t.val / 2) + R) 1 l : ℝ) : EReal) := by
  have ht : t.val < 4 := t.isLt
  obtain ⟨-, -, -, -, e0, e1⟩ := idx1 t
  have hp := point1_first V y c hV ⟨t.val - 1, Nat.lt_of_le_of_lt (Nat.sub_le _ _) t.isLt⟩ (by show (t.val - 1) % 2 = 0; omega) R l
  have hd : (t.val - 1) / 2 = t.val / 2 := by omega
  have hm : (t.val - 1) % 2 = 0 := by omega
  simp only [hd, hm] at hp
  rw [outs1_later V c t (by omega)]
  unfold step1
  have hne : ¬ t.val % 2 = 0 := by omega
  simp only [if_neg hne]
  constructor
  · refine (addSums1_apply y (block1_0 V y c hV t) (block1_1 V y c hV t) _ R l).trans ?_
    rw [hp.1, h, EReal.coe_add]
  · split
    · refine (addPos1_apply y (grid1.coords t) (by rw [e0]; exact block1_0 V y c hV t) (by rw [e1]; exact block1_1 V y c hV t) _ R l).trans ?_
      rw [hp.2, e0, e1, h, EReal.coe_add]
    · rw [hp.2, lanePos_off y (J := 1) l.isLt (by omega), add_zero]

theorem final1_2 : (dat1 V c).arrAt 2 cfg1.N = dacc y := by
  refine (dat1 V c).arrAt_eq_of_covers 2 _ (by decide +kernel) fun t hf z => ?_
  blk_simp
  rw [after1_2]
  idx_vars z
  have ht : t.val < 4 := t.isLt
  have h : 2048 * (t.val / 2) + z0.val < 4096 := by omega
  have e : ((cfg1.win 2).blk t).view.emb (ix2 z0 z1) = (ix2 ⟨2048 * (t.val / 2) + z0.val, h⟩ z1 : S4096x128.Idx) := by blk_ext [idx1 t]
  exact ((point1_last V y c hV t ((flush1_2 t).1 hf) z0 z1).1).trans (congrArg (dacc y) e).symm

theorem final1_3 : (dat1 V c).arrAt 3 cfg1.N = pacc y := by
  refine (dat1 V c).arrAt_eq_of_covers 3 _ (by decide +kernel) fun t hf z => ?_
  blk_simp
  rw [after1_3]
  idx_vars z
  have ht : t.val < 4 := t.isLt
  have h : 2048 * (t.val / 2) + z0.val < 4096 := by omega
  have e : ((cfg1.win 3).blk t).view.emb (ix2 z0 z1) = (ix2 ⟨2048 * (t.val / 2) + z0.val, h⟩ z1 : S4096x128.Idx) := by blk_ext [idx1 t]
  exact ((point1_last V y c hV t ((flush1_3 t).1 hf) z0 z1).2).trans (congrArg (pacc y) e).symm

end

end Cert.KernelIdeal.Val

end
-- ==== Proof.Val.Pay2.lean ====
/- What the third kernel stores, read at an index over extended reals: lane sums and sublane sums of a tile's exponentials. -/
module

public import proofs.«01_k».proof.Proof.Val.Pay1

@[expose] public section

set_option maxRecDepth 16384

noncomputable section

namespace Cert.KernelIdeal.Val

open Cert.KernelIdeal Cert.KernelIdeal.Gen Idealize.ShloMosaic

/-- The mask of a tile's diagonal, as an equality of positions. -/
theorem off_diagonal (r n : ℕ) (hr : r < 1024) (hn : n < 1024) (v : ℝ) :
    Scalar.select (IntOp.cmpi .eq (BitVec.ofNat 32 r) (BitVec.ofNat 32 n)) (0 : EReal) (v : EReal) = ((if n = r then 0 else v : ℝ) : EReal) := by
  by_cases h : n = r
  · rw [if_pos h, h]
    simp [IntOp.cmpi, Scalar.select]
  · rw [if_neg h]
    have hne : BitVec.ofNat 32 r ≠ BitVec.ofNat 32 n := fun e => by
      have := congrArg BitVec.toNat e
      rw [BitVec.toNat_ofNat, BitVec.toNat_ofNat, Nat.mod_eq_of_lt (by omega), Nat.mod_eq_of_lt (by omega)] at this
      omega
    simp [IntOp.cmpi, Scalar.select, beq_eq_false_iff_ne.2 hne]

section

variable (y : ℕ → Fin 2048 → ℝ) (a b : ℕ) (A B : FVec Ideal S2048x1024 .fp8e4m3) (hA : Cols y a A) (hB : Cols y b B)
include hA hB

theorem k2_pay1_apply (r q : Fin 1024) : k2_pay1 (F := Ideal) (k2_pay11 (F := Ideal) A) B (ix2 r q) = (Loss.E y (a + r) (b + q) : EReal) := by
  pointwise [k2_pay1, k2_pay11]
  simp only [hA _ _, hB _ _, product, exp2_scale, exponential, exponential_op]

/-- The lane sums added on the diagonal, the tile's own diagonal left out. -/
theorem k2_pay2_apply (p : FVec Ideal S1x1024x128 .f32) (r : Fin 1024) (l : Fin 128) :
    k2_pay2 (F := Ideal) (k2_pay11 (F := Ideal) A) B p (ix3 0 r l) = p (ix3 0 r l)
      + ((∑ m ∈ Finset.range 8, if 128 * m + l = (r : ℕ) then 0 else Loss.E y (a + r) (b + (128 * m + l)) : ℝ) : EReal) := by
  pointwise [k2_pay2]
  have hl := l.isLt
  simp only [k2_pay1_apply y a b A B hA hB]
  rw [off_diagonal r _ r.isLt (by omega), off_diagonal r _ r.isLt (by omega), off_diagonal r _ r.isLt (by omega), off_diagonal r _ r.isLt (by omega),
    off_diagonal r _ r.isLt (by omega), off_diagonal r _ r.isLt (by omega), off_diagonal r _ r.isLt (by omega), off_diagonal r _ r.isLt (by omega)]
  simp only [← EReal.coe_add, Finset.sum_range_succ, Finset.sum_range_zero, mul_zero, zero_add, Nat.reduceMul, mul_one]

end

section

variable (v : FVec Ideal S1024x1024 .f32) (f : ℕ → ℕ → ℝ) (hv : ∀ r q : Fin 1024, v (ix2 r q) = (f r q : EReal))
include hv

/-- The lane sums added off the diagonal. -/
theorem k2_pay4_apply (p : FVec Ideal S1x1024x128 .f32) (r : Fin 1024) (l : Fin 128) :
    k2_pay4 (F := Ideal) v p (ix3 0 r l) = p (ix3 0 r l) + ((∑ m ∈ Finset.range 8, f r (128 * m + l) : ℝ) : EReal) := by
  pointwise [k2_pay4]
  simp only [hv, ← EReal.coe_add, Finset.sum_range_succ, Finset.sum_range_zero, mul_zero, zero_add, Nat.reduceMul, mul_one]

/-- The sublane sums, a stretch of rows at a time. -/
theorem k2_pay5_apply (s : Fin 8) (q : Fin 1024) : k2_pay5 (F := Ideal) v (ix2 s q) = ((∑ m ∈ Finset.range 17, f (8 * m + s) q : ℝ) : EReal) := by
  pointwise [k2_pay5]
  simp only [hv, ← EReal.coe_add, Finset.sum_range_succ, Finset.sum_range_zero, mul_zero, zero_add, Nat.reduceMul, mul_one]

theorem k2_pay6_apply (u : FVec Ideal S8x1024 .f32) (s : Fin 8) (q : Fin 1024) (hu : u (ix2 s q) = ((∑ m ∈ Finset.range 17, f (8 * m + s) q : ℝ) : EReal)) :
    k2_pay6 (F := Ideal) v u (ix2 s q) = ((∑ m ∈ Finset.range 47, f (8 * m + s) q : ℝ) : EReal) := by
  pointwise [k2_pay6]
  simp only [hu, hv, ← EReal.coe_add, Finset.sum_range_succ, Finset.sum_range_zero, mul_zero, zero_add, Nat.reduceMul, mul_one]

theorem k2_pay7_apply (u : FVec Ideal S8x1024 .f32) (s : Fin 8) (q : Fin 1024) (hu : u (ix2 s q) = ((∑ m ∈ Finset.range 47, f (8 * m + s) q : ℝ) : EReal)) :
    k2_pay7 (F := Ideal) v u (ix2 s q) = ((∑ m ∈ Finset.range 77, f (8 * m + s) q : ℝ) : EReal) := by
  pointwise [k2_pay7]
  simp only [hu, hv, ← EReal.coe_add, Finset.sum_range_succ, Finset.sum_range_zero, mul_zero, zero_add, Nat.reduceMul, mul_one]

theorem k2_pay8_apply (u : FVec Ideal S8x1024 .f32) (s : Fin 8) (q : Fin 1024) (hu : u (ix2 s q) = ((∑ m ∈ Finset.range 77, f (8 * m + s) q : ℝ) : EReal)) :
    k2_pay8 (F := Ideal) v u (ix2 s q) = ((∑ m ∈ Finset.range 107, f (8 * m + s) q : ℝ) : EReal) := by
  pointwise [k2_pay8]
  simp only [hu, hv, ← EReal.coe_add, Finset.sum_range_succ, Finset.sum_range_zero, mul_zero, zero_add, Nat.reduceMul, mul_one]

end

/-- The last stretch, added to what is there. -/
theorem k2_pay3_apply (A B : FVec Ideal S2048x1024 .fp8e4m3) (f : ℕ → ℕ → ℝ) (hv : ∀ r q : Fin 1024, k2_pay1 (F := Ideal) A B (ix2 r q) = (f r q : EReal))
    (u : FVec Ideal S8x1024 .f32) (p : FVec Ideal S1x8x1024 .f32) (s : Fin 8) (q : Fin 1024)
    (hu : u (ix2 s q) = ((∑ m ∈ Finset.range 107, f (8 * m + s) q : ℝ) : EReal)) :
    k2_pay3 (F := Ideal) A B u p (ix3 0 s q) = p (ix3 0 s q) + ((∑ m ∈ Finset.range 128, f (8 * m + s) q : ℝ) : EReal) := by
  pointwise [k2_pay3]
  simp only [hu, hv, ← EReal.coe_add, Finset.sum_range_succ, Finset.sum_range_zero, mul_zero, zero_add, Nat.reduceMul, mul_one]

theorem k2_pay9_apply (a : Fin 4) (r : Fin 1024) (l : Fin 128) : k2_pay9 (F := Ideal) (ix3 a r l) = 0 := by
  pointwise [k2_pay9]

theorem k2_pay10_apply (a : Fin 4) (s : Fin 8) (q : Fin 1024) : k2_pay10 (F := Ideal) (ix3 a s q) = 0 := by
  pointwise [k2_pay10]

end Cert.KernelIdeal.Val

end
-- ==== Proof.Val.Arr2.lean ====
/- The third region's results over extended reals, its argument being the scaled rows: for every tile pair on or above the
   diagonal, the lane sums of the tile's exponentials for its rows and the sublane sums for its columns. -/
module

public import proofs.«01_k».proof.Proof.KI.Region2
public import proofs.«01_k».proof.Proof.Val.Arr0
public import proofs.«01_k».proof.Proof.Val.Pay2

@[expose] public section

set_option maxRecDepth 16384

noncomputable section

namespace Cert.KernelIdeal.Val

open Cert.KernelIdeal Cert.KernelIdeal.Gen Cert.KernelIdeal.Hand Idealize.ShloMosaic Idealize.ShloMosaic.TcCoe
open Idealize.ShloMosaic.Pipeline (Dat)

/-- The tile row of each point of the triangle, and below it the tile column. -/
def triRow (n : ℕ) : ℕ := if n < 4 then 0 else if n < 7 then 1 else if n < 9 then 2 else 3
def triCol (n : ℕ) : ℕ := if n < 4 then n else if n < 7 then n - 3 else if n < 9 then n - 5 else 3

theorem idx2 : ∀ t : Fin cfg2.N, win2_0.index t = ![0, triRow t.val] ∧ win2_1.index t = ![0, triCol t.val] ∧ win2_2.index t = ![0, 0, 0]
    ∧ win2_3.index t = ![0, 0, 0] ∧ triRow t.val < 4 ∧ triCol t.val < 4 := (by decide +kernel : ∀ t : Fin grid2.N, _)

theorem off2_facts : ∀ t : Fin cfg2.N, k2_off1 (grid2.coords t) = ![triRow t.val, 0, 0] ∧ k2_off2 (grid2.coords t) = ![triRow t.val, 0, 0]
    ∧ k2_off3 (grid2.coords t) = ![triCol t.val, 0, 0] := (by decide +kernel : ∀ t : Fin grid2.N, _)

theorem diag_iff : ∀ t : Fin cfg2.N, k2_cond2 (grid2.coords t) = 1#1 ↔ triRow t.val = triCol t.val :=
  (by decide +kernel : ∀ t : Fin grid2.N, _)

/-- One slab of a three-axis array replaced by itself plus something: the other slabs stay. -/
theorem put_slab {N P Q : ℕ} (x : (⟨3, ![N, P, Q]⟩ : Shape).Idx → EReal) (off : Fin 3 → ℕ) (n : ℕ) (hoff : off = ![n, 0, 0])
    (inb : ∀ a, off a + (![1, P, Q] : Fin 3 → ℕ) a ≤ (⟨3, ![N, P, Q]⟩ : Shape).size a)
    (w : (⟨3, ![1, P, Q]⟩ : Shape).Idx → EReal) (g : ℝ) (a : Fin N) (p : Fin P) (q : Fin Q)
    (hw : w (ix3 0 p q) = VecWindow.window x off ![1, P, Q] inb (ix3 (0 : Fin 1) p q : (⟨3, ![1, P, Q]⟩ : Shape).Idx) + (g : EReal)) :
    VecWindow.put x off ![1, P, Q] w (ix3 a p q) = x (ix3 a p q) + ((if a.val = n then g else 0 : ℝ) : EReal) := by
  subst hoff
  by_cases h : a.val = n
  · rw [if_pos h]
    have hm : ∀ d, (![n, 0, 0] : Fin 3 → ℕ) d ≤ ((ix3 a p q : (⟨3, ![N, P, Q]⟩ : Shape).Idx) d).val
        ∧ ((ix3 a p q : (⟨3, ![N, P, Q]⟩ : Shape).Idx) d).val < (![n, 0, 0] : Fin 3 → ℕ) d + (![1, P, Q] : Fin 3 → ℕ) d := fun d => by
      match d with
      | ⟨0, _⟩ => show n ≤ a.val ∧ a.val < n + 1; omega
      | ⟨1, _⟩ => show 0 ≤ p.val ∧ p.val < 0 + P; omega
      | ⟨2, _⟩ => show 0 ≤ q.val ∧ q.val < 0 + Q; omega
    refine (dif_pos hm).trans ?_
    refine Eq.trans (congrArg w (funext fun d => Fin.ext ?_)) (hw.trans (congrArg (fun u : EReal => u + (g : EReal)) (congrArg x (funext fun d => Fin.ext ?_))))
    · match d with
      | ⟨0, _⟩ => show a.val - n = 0; omega
      | ⟨1, _⟩ => show p.val - 0 = p.val; omega
      | ⟨2, _⟩ => show q.val - 0 = q.val; omega
    · match d with
      | ⟨0, _⟩ => show n + 1 * 0 = a.val; omega
      | ⟨1, _⟩ => show 0 + 1 * p.val = p.val; omega
      | ⟨2, _⟩ => show 0 + 1 * q.val = q.val; omega
  · rw [if_neg h, EReal.coe_zero, add_zero]
    exact dif_neg fun hm => h (by
      have h0 : n ≤ a.val ∧ a.val < n + 1 := hm (⟨0, Nat.succ_pos 2⟩ : Fin 3)
      omega)

variable (V : (c : Dev nD) → (b : Ref sig .tc) → Buf (Elt Ideal) ((c : Thread nD τ).loc b)) (y : ℕ → Fin 2048 → ℝ)

/-- What point `n` adds to row `r` of its tile row at lane `l`. -/
def rowPart (n r l : ℕ) : ℝ := ∑ m ∈ Finset.range 8, if triRow n = triCol n ∧ 128 * m + l = r then 0
  else Loss.E y (1024 * triRow n + r) (1024 * triCol n + (128 * m + l))

/-- What point `n` adds to column `q` of its tile column at sublane `s`. -/
def colPart (n s q : ℕ) : ℝ := if triRow n = triCol n then 0
  else ∑ m ∈ Finset.range 128, Loss.E y (1024 * triRow n + (8 * m + s)) (1024 * triCol n + q)

theorem cols_r2w {a : ℕ} {x : Vec Ideal S2048x1024 .fp8e4m3} (h : Cols y a x) : Cols y a (n := 1024) (View.ld x r2w) := by
  intro k q
  refine Eq.trans ?_ (h k q)
  exact congrArg x (funext fun d => Fin.ext (by
    match d with
    | ⟨0, _⟩ => show 0 + 1 * k.val = k.val; omega
    | ⟨1, _⟩ => show 0 + 1 * q.val = q.val; omega))

section

variable (c : Dev nD) (hV : V c main_v0 = columns y)
include hV

theorem block2_0 (t : Fin cfg2.N) : Cols y (1024 * triRow t.val) (n := 1024) (iblk2 V c 0 t) := by
  intro k q
  have ht := (idx2 t).2.2.2.2.1
  have h : 1024 * triRow t.val + q.val < 8192 := by omega
  have e : (show FVec Ideal S2048x1024 .fp8e4m3 from iblk2 V c 0 t) (ix2 k q) = (show FVec Ideal S2048x8192 .fp8e4m3 from V c main_v0) (ix2 k ⟨1024 * triRow t.val + q.val, h⟩) := by
    blk_ext [iblk2, idx2 t]
  refine e.trans ?_
  rw [hV]
  rfl

theorem block2_1 (t : Fin cfg2.N) : Cols y (1024 * triCol t.val) (n := 1024) (iblk2 V c 1 t) := by
  intro k q
  have ht := (idx2 t).2.2.2.2.2
  have h : 1024 * triCol t.val + q.val < 8192 := by omega
  have e : (show FVec Ideal S2048x1024 .fp8e4m3 from iblk2 V c 1 t) (ix2 k q) = (show FVec Ideal S2048x8192 .fp8e4m3 from V c main_v0) (ix2 k ⟨1024 * triCol t.val + q.val, h⟩) := by
    blk_ext [iblk2, idx2 t]
  refine e.trans ?_
  rw [hV]
  rfl

theorem step2_rows (t : Fin cfg2.N) (p : Vec Ideal S4x1024x128 .f32 × Vec Ideal S4x8x1024 .f32) (a : Fin 4) (r : Fin 1024) (l : Fin 128) :
    (step2 V c t p).1 (ix3 a r l) = p.1 (ix3 a r l) + ((if a.val = triRow t.val then rowPart y t.val r l else 0 : ℝ) : EReal) := by
  have hA := cols_r2w y (block2_0 V y c hV t)
  have hB := cols_r2w y (block2_1 V y c hV t)
  by_cases h : k2_cond2 (grid2.coords t) = 1#1
  · rw [step2, dif_pos h, diag2]
    have hd := (diag_iff t).1 h
    refine put_slab p.1 _ _ (off2_facts t).1 (k2_off1_inb (grid2.coords t) h) _ _ a r l ?_
    refine (k2_pay2_apply y _ _ _ _ hA hB _ r l).trans ?_
    simp only [rowPart, hd, true_and]
  · rw [step2, dif_neg h, off2]
    have hd := fun e => h ((diag_iff t).2 e)
    refine put_slab p.1 _ _ (off2_facts t).2.1 (k2_off2_inb (grid2.coords t) ((cond2_off t).mpr h)) _ _ a r l ?_
    refine (k2_pay4_apply _ (fun r q => Loss.E y (1024 * triRow t.val + r) (1024 * triCol t.val + q)) (fun r q => k2_pay1_apply y _ _ _ _ hA hB r q) _ r l).trans ?_
    have hn : ∀ m : ℕ, ¬ (triRow t.val = triCol t.val ∧ 128 * m + l.val = r.val) := fun m e => hd e.1
    simp only [rowPart, if_neg (hn _)]

theorem step2_cols (t : Fin cfg2.N) (p : Vec Ideal S4x1024x128 .f32 × Vec Ideal S4x8x1024 .f32) (b : Fin 4) (s : Fin 8) (q : Fin 1024) :
    (step2 V c t p).2 (ix3 b s q) = p.2 (ix3 b s q) + ((if b.val = triCol t.val then colPart y t.val s q else 0 : ℝ) : EReal) := by
  have hA := cols_r2w y (block2_0 V y c hV t)
  have hB := cols_r2w y (block2_1 V y c hV t)
  by_cases h : k2_cond2 (grid2.coords t) = 1#1
  · rw [step2, dif_pos h, diag2]
    have hd := (diag_iff t).1 h
    simp only [colPart, hd, if_true, ite_self, EReal.coe_zero, add_zero]
  · rw [step2, dif_neg h, off2]
    have hd := fun e => h ((diag_iff t).2 e)
    obtain ⟨f, hf⟩ : ∃ f : ℕ → ℕ → ℝ, f = fun r q => Loss.E y (1024 * triRow t.val + r) (1024 * triCol t.val + q) := ⟨_, rfl⟩
    have hv : ∀ r q : Fin 1024, k2_pay1 (F := Ideal) (k2_pay11 (F := Ideal) (View.ld (iblk2 V c 0 t) r2w)) (View.ld (iblk2 V c 1 t) r2w) (ix2 r q) = (f r q : EReal) :=
      fun r q => by rw [hf]; exact k2_pay1_apply y _ _ _ _ hA hB r q
    refine put_slab p.2 _ _ (off2_facts t).2.2 (k2_off3_inb (grid2.coords t) ((cond2_off t).mpr h)) _ _ b s q ?_
    refine (k2_pay3_apply _ _ f hv _ _ s q
      (k2_pay8_apply _ f hv _ s q (k2_pay7_apply _ f hv _ s q (k2_pay6_apply _ f hv _ s q (k2_pay5_apply _ f hv s q))))).trans ?_
    simp only [colPart, if_neg hd, hf]

theorem outs2_rows (n : ℕ) (h : n < cfg2.N) (a : Fin 4) (r : Fin 1024) (l : Fin 128) :
    (outs2 V c n h).1 (ix3 a r l) = ((∑ u ∈ Finset.range (n + 1), if a.val = triRow u then rowPart y u r l else 0 : ℝ) : EReal) := by
  induction n with
  | zero =>
    refine (step2_rows V y c hV ⟨0, h⟩ zero2 a r l).trans ?_
    rw [Finset.sum_range_succ, Finset.sum_range_zero, zero_add]
    refine (congrArg (fun u : EReal => u + _) (k2_pay9_apply a r l)).trans (zero_add _)
  | succ n ih =>
    refine (step2_rows V y c hV ⟨n + 1, h⟩ _ a r l).trans ?_
    rw [Finset.sum_range_succ, EReal.coe_add, ih (Nat.lt_of_succ_lt h)]

theorem outs2_cols (n : ℕ) (h : n < cfg2.N) (b : Fin 4) (s : Fin 8) (q : Fin 1024) :
    (outs2 V c n h).2 (ix3 b s q) = ((∑ u ∈ Finset.range (n + 1), if b.val = triCol u then colPart y u s q else 0 : ℝ) : EReal) := by
  induction n with
  | zero =>
    refine (step2_cols V y c hV ⟨0, h⟩ zero2 b s q).trans ?_
    rw [Finset.sum_range_succ, Finset.sum_range_zero, zero_add]
    refine (congrArg (fun u : EReal => u + _) (k2_pay10_apply b s q)).trans (zero_add _)
  | succ n ih =>
    refine (step2_cols V y c hV ⟨n + 1, h⟩ _ b s q).trans ?_
    rw [Finset.sum_range_succ, EReal.coe_add, ih (Nat.lt_of_succ_lt h)]

end

/-- The first result: every row's lane sums over its tiles of the triangle. -/
def dacc2 : FVec Ideal S4x1024x128 .f32 := fun j => ((∑ u ∈ Finset.range 10, if (j 0).val = triRow u then rowPart y u (j 1).val (j 2).val else 0 : ℝ) : EReal)

/-- The second: every column's sublane sums over its tiles of the triangle. -/
def cacc : FVec Ideal S4x8x1024 .f32 := fun j => ((∑ u ∈ Finset.range 10, if (j 0).val = triCol u then colPart y u (j 1).val (j 2).val else 0 : ℝ) : EReal)

section

variable (c : Dev nD) (hV : V c main_v0 = columns y)
include hV

theorem final2_2 : (dat2 V c).arrAt 2 cfg2.N = dacc2 y := by
  refine (dat2 V c).arrAt_eq_of_covers 2 _ (by decide +kernel) fun t hf z => ?_
  blk_simp
  rw [after2_2]
  idx_vars z
  have hN : t.val < 10 := t.isLt
  have ht : t.val = 9 := by have := (flush2_2 t).1 hf; omega
  have e : ((cfg2.win 2).blk t).view.emb (ix3 z0 z1 z2) = (ix3 z0 z1 z2 : S4x1024x128.Idx) := by blk_ext [idx2 t]
  refine (outs2_rows V y c hV t.val t.isLt z0 z1 z2).trans (Eq.trans ?_ (congrArg (dacc2 y) e).symm)
  rw [ht]
  rfl

theorem final2_3 : (dat2 V c).arrAt 3 cfg2.N = cacc y := by
  refine (dat2 V c).arrAt_eq_of_covers 3 _ (by decide +kernel) fun t hf z => ?_
  blk_simp
  rw [after2_3]
  idx_vars z
  have hN : t.val < 10 := t.isLt
  have ht : t.val = 9 := by have := (flush2_3 t).1 hf; omega
  have e : ((cfg2.win 3).blk t).view.emb (ix3 z0 z1 z2) = (ix3 z0 z1 z2 : S4x8x1024.Idx) := by blk_ext [idx2 t]
  refine (outs2_cols V y c hV t.val t.isLt z0 z1 z2).trans (Eq.trans ?_ (congrArg (cacc y) e).symm)
  rw [ht]
  rfl

end

end Cert.KernelIdeal.Val

end
-- ==== Proof.Val.Pay3.lean ====
/- What the fourth kernel computes, read at an index over extended reals: of every first-half row the logarithm of its
   denominator less its positive pair, summed. -/
module

public import proofs.«01_k».proof.Proof.Val.Pay1

@[expose] public section

set_option maxRecDepth 16384

noncomputable section

namespace Cert.KernelIdeal.Val

open Cert.KernelIdeal Cert.KernelIdeal.Gen Idealize.ShloMosaic

theorem log_pos_coe {x : ℝ} (h : 0 < x) : Ideal.log (x : EReal) = ((Real.log x : ℝ) : EReal) := by
  rw [Ideal.log_coe, if_neg (not_le.2 h)]

/-- A block's terms: the logarithm of the denominators less the pairs. -/
def blockTerms (den pos : ℕ → ℝ) : ℝ := ∑ r ∈ Finset.range 1024, (Real.log (den r) - pos r)

theorem block_sum {den pos : ℕ → ℝ} (hd : ∀ r, r < 1024 → 0 < den r) :
    ∑ r : Fin 1024, (Ideal.log (den r : EReal) - (pos r : EReal)) = (blockTerms den pos : EReal) := by
  rw [Finset.sum_congr rfl fun r _ => by rw [log_pos_coe (hd _ r.isLt), ← EReal.coe_sub], ← Loss.coe_sum, blockTerms,
    Fin.sum_univ_eq_sum_range (fun r => Real.log (den r) - pos r) 1024]

theorem lane_sum (f : ℕ → ℝ) : ∑ l : Fin 128, (f l : EReal) = ((∑ l ∈ Finset.range 128, f l : ℝ) : EReal) := by
  rw [← Loss.coe_sum, Fin.sum_univ_eq_sum_range f 128]

theorem sublane_sum (f : ℕ → ℝ) : ∑ l : Fin 8, (f l : EReal) = ((∑ l ∈ Finset.range 8, f l : ℝ) : EReal) := by
  rw [← Loss.coe_sum, Fin.sum_univ_eq_sum_range f 8]

variable (C : ℕ → ℕ → ℕ → ℝ) (v1 : FVec Ideal S4x8x1024 .f32) (hC : ∀ (a : Fin 4) (s : Fin 8) (q : Fin 1024), v1 (ix3 a s q) = (C a s q : EReal))
include hC

theorem k3_pay2_apply (a : Fin 4) (q : Fin 1024) : k3_pay2 (F := Ideal) v1 (ix2 a q) = ((∑ s ∈ Finset.range 8, C a s q : ℝ) : EReal) := by
  pointwise [k3_pay2]
  simp only [hC]
  exact sublane_sum (fun s => C a s q)

variable (d e p : ℕ → ℕ → ℝ) (x : FVec Ideal S1024x128 .f32) (hx : ∀ (r : Fin 1024) (l : Fin 128), x (ix2 r l) = (d r l : EReal))
  (z : FVec Ideal S1x1024x128 .f32) (hz : ∀ (r : Fin 1024) (l : Fin 128), z (ix3 0 r l) = (e r l : EReal))
  (w : FVec Ideal S1024x128 .f32) (hw : ∀ (r : Fin 1024) (l : Fin 128), w (ix2 r l) = (p r l : EReal))

/-- The denominator of row `r` of block `a`, from its three parts. -/
def blockDen (a r : ℕ) : ℝ := (∑ l ∈ Finset.range 128, d r l) + (∑ l ∈ Finset.range 128, e r l) + ∑ s ∈ Finset.range 8, C a s r

omit hC in
theorem den_parts (a : Fin 4) (n : ℕ) (h : a.val = n) (r : ℕ) :
    (∑ l ∈ Finset.range 128, d r l) + (∑ l ∈ Finset.range 128, e r l) + ∑ s ∈ Finset.range 8, C a s r = blockDen C d e n r := by
  rw [blockDen, h]

include hx hz in
theorem k3_pay4_apply (r : Fin 1024) : k3_pay4 (F := Ideal) v1 x z (ix2 r 0) = (blockDen C d e 1 r : EReal) := by
  pointwise [k3_pay4]
  simp only [k3_pay2_apply C v1 hC, hx, hz, lane_sum (d _), lane_sum (e _), ← EReal.coe_add, den_parts C d e 1 1 rfl]

include hx hz hw in
theorem k3_pay3_apply (hpos : ∀ r, r < 1024 → 0 < blockDen C d e 0 r) :
    k3_pay3 (F := Ideal) v1 x z w (ix2 0 0) = (blockTerms (blockDen C d e 0) (fun r => ∑ l ∈ Finset.range 128, p r l) : EReal) := by
  pointwise [k3_pay3]
  simp only [k3_pay2_apply C v1 hC, hx, hz, hw, lane_sum (d _), lane_sum (e _), lane_sum (p _), ← EReal.coe_add, den_parts C d e 0 0 rfl]
  exact block_sum (pos := fun r => ∑ l ∈ Finset.range 128, p r l) hpos

omit hC in
include hx in
theorem k3_pay6_apply (r : Fin 1024) : k3_pay6 (F := Ideal) x (ix2 r 0) = ((∑ l ∈ Finset.range 128, d r l : ℝ) : EReal) := by
  pointwise [k3_pay6]
  simp only [hx, lane_sum (d _)]

omit hC in
include hz in
theorem k3_pay7_apply (r : Fin 1024) : k3_pay7 (F := Ideal) z (ix2 r 0) = ((∑ l ∈ Finset.range 128, e r l : ℝ) : EReal) := by
  pointwise [k3_pay7]
  simp only [hz, lane_sum (e _)]

set_option maxHeartbeats 1600000 in
include hx hz hw in
theorem k3_pay5_apply (hpos : ∀ r, r < 1024 → 0 < blockDen C d e 2 r) (t : FVec Ideal S1x1 .f32) (L : ℝ) (ht : t (ix2 0 0) = (L : EReal))
    (den : ℕ → ℝ) (q : ℕ → ℕ → ℝ) (u : FVec Ideal S1024x1 .f32) (hu : ∀ r : Fin 1024, u (ix2 r 0) = (den r : EReal)) (hden : ∀ r, r < 1024 → 0 < den r)
    (w' : FVec Ideal S1024x128 .f32) (hw' : ∀ (r : Fin 1024) (l : Fin 128), w' (ix2 r l) = (q r l : EReal)) :
    k3_pay5 (F := Ideal) (k3_pay2 (F := Ideal) v1) t u w' x z w (ix2 0 0)
      = ((L + blockTerms den (fun r => ∑ l ∈ Finset.range 128, q r l) + blockTerms (blockDen C d e 2) (fun r => ∑ l ∈ Finset.range 128, p r l) : ℝ) : EReal) := by
  pointwise [k3_pay5]
  simp only [k3_pay2_apply C v1 hC, hx, hz, hw, hw', hu, ht, lane_sum (d _), lane_sum (e _), lane_sum (p _), lane_sum (q _), ← EReal.coe_add, den_parts C d e 2 2 rfl]
  rw [EReal.coe_add, EReal.coe_add, ← block_sum hden, ← block_sum hpos]

include hx hz hw in
theorem k3_pay1_apply (hpos : ∀ r, r < 1024 → 0 < blockDen C d e 3 r) (t : FVec Ideal S1x1 .f32) (L : ℝ) (ht : t (ix2 0 0) = (L : EReal)) :
    k3_pay1 (F := Ideal) (k3_pay2 (F := Ideal) v1) t (k3_pay6 (F := Ideal) x) (k3_pay7 (F := Ideal) z) w (ix2 0 0)
      = (((L + blockTerms (blockDen C d e 3) (fun r => ∑ l ∈ Finset.range 128, p r l)) * (1 / 8192) : ℝ) : EReal) := by
  pointwise [k3_pay1]
  simp only [k3_pay2_apply C v1 hC, k3_pay6_apply d x hx, k3_pay7_apply e z hz, hw, ht, lane_sum (p _), ← EReal.coe_add, Loss.ofBits_inv8192, den_parts C d e 3 3 rfl]
  rw [EReal.coe_mul, EReal.coe_add, ← block_sum hpos]

end Cert.KernelIdeal.Val

end
-- ==== Proof.Val.Total.lean ====
/- The kernel's partial sums put together: a first-half row's three parts are its denominator, its lanes of pairs are its
   positive pair, and the four blocks are the loss. -/
module

public import proofs.«01_k».proof.Proof.Val.Arr1
public import proofs.«01_k».proof.Proof.Val.Arr2
public import proofs.«01_k».proof.Proof.Val.Pay3

@[expose] public section

set_option maxRecDepth 16384

noncomputable section

namespace Cert.KernelIdeal.Val

open Cert.KernelIdeal Cert.KernelIdeal.Gen Idealize.ShloMosaic

theorem split_8192 (f : ℕ → ℝ) : ∑ j ∈ Finset.range 8192, f j
    = (∑ j ∈ Finset.range 4096, f j) + (∑ q ∈ Finset.range 2048, f (4096 + q)) + ∑ q ∈ Finset.range 2048, f (6144 + q) := by
  rw [show 8192 = 6144 + 2048 from rfl, Finset.sum_range_add, show 6144 = 4096 + 2048 from rfl, Finset.sum_range_add]

theorem split_4096 (f : ℕ → ℝ) : ∑ j ∈ Finset.range 4096, f j
    = (∑ q ∈ Finset.range 1024, f (1024 * 0 + q)) + (∑ q ∈ Finset.range 1024, f (1024 * 1 + q)) + (∑ q ∈ Finset.range 1024, f (1024 * 2 + q))
      + ∑ q ∈ Finset.range 1024, f (1024 * 3 + q) := by
  rw [show 4096 = 3072 + 1024 from rfl, Finset.sum_range_add, show 3072 = 2048 + 1024 from rfl, Finset.sum_range_add,
    show 2048 = 1024 + 1024 from rfl, Finset.sum_range_add]
  simp only [mul_zero, zero_add, mul_one, Nat.reduceMul]

theorem split_halves (f : ℕ → ℝ) : ∑ j ∈ Finset.range 4096, f j
    = (∑ q ∈ Finset.range 2048, f (2048 * 0 + q)) + ∑ q ∈ Finset.range 2048, f (2048 * 1 + q) := by
  rw [show 4096 = 2048 + 2048 from rfl, Finset.sum_range_add]
  simp only [mul_zero, zero_add, mul_one]

variable (y : ℕ → Fin 2048 → ℝ)

/-- A row of tile row `a`, over the columns of tile column `b`, itself left out. -/
def tileSum (a r b : ℕ) : ℝ := ∑ q ∈ Finset.range 1024, if a = b ∧ q = r then 0 else Loss.E y (1024 * a + r) (1024 * b + q)

theorem lanes_laneSum (R b : ℕ) : ∑ l ∈ Finset.range 128, laneSum y R b l = ∑ q ∈ Finset.range 2048, Loss.E y R (b + q) :=
  Loss.lanes 16 (fun q => Loss.E y R (b + q))

theorem lanes_lanePos (R J : ℕ) : ∑ l ∈ Finset.range 128, lanePos y R J l
    = ∑ q ∈ Finset.range 2048, if 2048 * J + q = R then Loss.sim y R (4096 + 2048 * J + q) / Loss.T else 0 :=
  Loss.lanes 16 (fun q => if 2048 * J + q = R then Loss.sim y R (4096 + 2048 * J + q) / Loss.T else 0)

theorem lanes_rowPart (u r : ℕ) : ∑ l ∈ Finset.range 128, rowPart y u r l = tileSum y (triRow u) r (triCol u) :=
  Loss.lanes 8 (fun q => if triRow u = triCol u ∧ q = r then 0 else Loss.E y (1024 * triRow u + r) (1024 * triCol u + q))

theorem sublanes_colPart (u r : ℕ) : ∑ s ∈ Finset.range 8, colPart y u s r = if triRow u = triCol u then 0 else tileSum y (triCol u) r (triRow u) := by
  unfold colPart
  split
  · exact Finset.sum_const_zero
  · rename_i h
    refine (Loss.sublanes 128 (fun q => Loss.E y (1024 * triRow u + q) (1024 * triCol u + r))).trans ?_
    refine Finset.sum_congr rfl fun q _ => ?_
    rw [if_neg (fun e => h e.1.symm), Loss.E_comm]

/-- What the three regions leave for row `r` of block `a`. -/
def rowLanes (a r l : ℕ) : ℝ := laneSum y (1024 * a + r) (4096 + 2048 * 0) l + laneSum y (1024 * a + r) (4096 + 2048 * 1) l
def posLanes (a r l : ℕ) : ℝ := lanePos y (1024 * a + r) 0 l + lanePos y (1024 * a + r) 1 l
def triLanes (a r l : ℕ) : ℝ := ∑ u ∈ Finset.range 10, if a = triRow u then rowPart y u r l else 0
def triSubs (a s q : ℕ) : ℝ := ∑ u ∈ Finset.range 10, if a = triCol u then colPart y u s q else 0

/-- Every tile column is met once, from the row's side or from the column's. -/
theorem triangle (a : ℕ) (ha : a < 4) (X : ℕ → ℝ) :
    (∑ u ∈ Finset.range 10, if a = triRow u then X (triCol u) else 0) + (∑ u ∈ Finset.range 10, if a = triCol u then (if triRow u = triCol u then 0 else X (triRow u)) else 0)
      = X 0 + X 1 + X 2 + X 3 := by
  interval_cases a <;> simp [Finset.sum_range_succ, triRow, triCol] <;> ring

theorem lanes_tri (a r : ℕ) : ∑ l ∈ Finset.range 128, triLanes y a r l = ∑ u ∈ Finset.range 10, if a = triRow u then tileSum y a r (triCol u) else 0 := by
  unfold triLanes
  rw [Finset.sum_comm]
  refine Finset.sum_congr rfl fun u _ => ?_
  by_cases h : a = triRow u
  · simp only [if_pos h]
    rw [lanes_rowPart, h]
  · simp only [if_neg h, Finset.sum_const_zero]

theorem subs_tri (a r : ℕ) : ∑ s ∈ Finset.range 8, triSubs y a s r
    = ∑ u ∈ Finset.range 10, if a = triCol u then (if triRow u = triCol u then 0 else tileSum y a r (triRow u)) else 0 := by
  unfold triSubs
  rw [Finset.sum_comm]
  refine Finset.sum_congr rfl fun u _ => ?_
  by_cases h : a = triCol u
  · simp only [if_pos h]
    rw [sublanes_colPart, h]
  · simp only [if_neg h, Finset.sum_const_zero]

/-- A tile's part of a row's denominator. -/
theorem tile_eq (a r b : ℕ) (hr : r < 1024) : (∑ q ∈ Finset.range 1024, if 1024 * b + q = 1024 * a + r then 0 else Loss.E y (1024 * a + r) (1024 * b + q)) = tileSum y a r b :=
  Finset.sum_congr rfl fun q hq => by
    have hq := Finset.mem_range.1 hq
    exact if_congr ⟨fun h => by omega, fun h => by omega⟩ rfl rfl

theorem blockDen_eq (a r : ℕ) (ha : a < 4) (hr : r < 1024) : blockDen (triSubs y) (rowLanes y a) (triLanes y a) a r = Loss.denom y (1024 * a + r) := by
  have hi : 1024 * a + r < 4096 := by omega
  have h1 : ∀ n : ℕ, 4096 ≤ n → ∀ q, (if n + q = 1024 * a + r then (0 : ℝ) else Loss.E y (1024 * a + r) (n + q)) = Loss.E y (1024 * a + r) (n + q) :=
    fun n hn q => if_neg (by omega)
  rw [blockDen, lanes_tri, subs_tri, Loss.denom, split_8192, split_4096, tile_eq y a r 0 hr, tile_eq y a r 1 hr, tile_eq y a r 2 hr, tile_eq y a r 3 hr,
    ← triangle a ha (tileSum y a r)]
  simp only [h1 4096 le_rfl, h1 6144 (by norm_num), rowLanes, Finset.sum_add_distrib, lanes_laneSum, mul_zero, add_zero, mul_one, Nat.reduceAdd]
  ring

theorem posLanes_eq (a r : ℕ) (ha : a < 4) (hr : r < 1024) :
    ∑ l ∈ Finset.range 128, posLanes y a r l = Loss.sim y (1024 * a + r) (1024 * a + r + 4096) / Loss.T := by
  have hi : 1024 * a + r ∈ Finset.range 4096 := Finset.mem_range.2 (by omega)
  unfold posLanes
  rw [Finset.sum_add_distrib, lanes_lanePos, lanes_lanePos]
  simp only [add_assoc 4096]
  rw [← split_halves (fun j => if j = 1024 * a + r then Loss.sim y (1024 * a + r) (4096 + j) / Loss.T else 0), Finset.sum_ite_eq' , if_pos hi, add_comm 4096]

theorem blockDen_pos (a r : ℕ) (ha : a < 4) (hr : r < 1024) : 0 < blockDen (triSubs y) (rowLanes y a) (triLanes y a) a r := by
  rw [blockDen_eq y a r ha hr]; exact Loss.denom_pos y _

/-- Block `a`'s terms are the loss's terms of its rows. -/
theorem blockTerms_eq (a : ℕ) (ha : a < 4) :
    blockTerms (blockDen (triSubs y) (rowLanes y a) (triLanes y a) a) (fun r => ∑ l ∈ Finset.range 128, posLanes y a r l)
      = ∑ r ∈ Finset.range 1024, (Real.log (Loss.denom y (1024 * a + r)) - Loss.sim y (1024 * a + r) (1024 * a + r + 4096) / Loss.T) :=
  Finset.sum_congr rfl fun r hr => by
    have hr := Finset.mem_range.1 hr
    exact congrArg₂ (fun u v : ℝ => Real.log u - v) (blockDen_eq y a r ha hr) (posLanes_eq y a r ha hr)

theorem total :
    (blockTerms (blockDen (triSubs y) (rowLanes y 0) (triLanes y 0) 0) (fun r => ∑ l ∈ Finset.range 128, posLanes y 0 r l)
      + blockTerms (blockDen (triSubs y) (rowLanes y 1) (triLanes y 1) 1) (fun r => ∑ l ∈ Finset.range 128, posLanes y 1 r l)
      + blockTerms (blockDen (triSubs y) (rowLanes y 2) (triLanes y 2) 2) (fun r => ∑ l ∈ Finset.range 128, posLanes y 2 r l)
      + blockTerms (blockDen (triSubs y) (rowLanes y 3) (triLanes y 3) 3) (fun r => ∑ l ∈ Finset.range 128, posLanes y 3 r l)) * (1 / 8192) = Loss.loss y := by
  rw [blockTerms_eq y 0 (by norm_num), blockTerms_eq y 1 (by norm_num), blockTerms_eq y 2 (by norm_num), blockTerms_eq y 3 (by norm_num), Loss.loss,
    split_4096 (fun i => Real.log (Loss.denom y i) - Loss.sim y i (i + 4096) / Loss.T)]

end Cert.KernelIdeal.Val

end
-- ==== Proof.Val.Arr3.lean ====
/- The last region's result over extended reals: the loss of the rows. -/
module

public import proofs.«01_k».proof.Proof.KI.Region3
public import proofs.«01_k».proof.Proof.Val.Total

@[expose] public section

set_option maxRecDepth 16384

noncomputable section

namespace Cert.KernelIdeal.Val

open Cert.KernelIdeal Cert.KernelIdeal.Gen Cert.KernelIdeal.Hand Idealize.ShloMosaic Idealize.ShloMosaic.TcCoe
open Idealize.ShloMosaic.Pipeline (Dat)

variable (y : ℕ → Fin 2048 → ℝ)

/-- A read of 1024 rows from row `n` on. -/
theorem ld_rows (x : Vec Ideal S4096x128 .f32) (off : Fin 2 → ℕ) (n : ℕ) (inb : ∀ d, off d + S1024x128.size d ≤ S4096x128.size d) (hoff : off = ![n, 0])
    (r : Fin 1024) (l : Fin 128) (h : n + r.val < 4096) :
    View.ld x (Rect.unit (s := S4096x128) off S1024x128.size inb) (ix2 r l : S1024x128.Idx) = x (ix2 ⟨n + r.val, h⟩ l) := by
  subst hoff
  exact congrArg x (funext fun d => Fin.ext (by
    match d with
    | ⟨0, _⟩ => show n + 1 * r.val = n + r.val; omega
    | ⟨1, _⟩ => show 0 + 1 * l.val = l.val; omega))

/-- A read of slab `a`. -/
theorem ld_slab (x : Vec Ideal S4x1024x128 .f32) (off : Fin 3 → ℕ) (a : Fin 4) (inb : ∀ d, off d + S1x1024x128.size d ≤ S4x1024x128.size d) (hoff : off = ![a.val, 0, 0])
    (r : Fin 1024) (l : Fin 128) :
    View.ld x (Rect.unit (s := S4x1024x128) off S1x1024x128.size inb) (ix3 0 r l : S1x1024x128.Idx) = x (ix3 a r l) := by
  subst hoff
  exact congrArg x (funext fun d => Fin.ext (by
    match d with
    | ⟨0, _⟩ => show a.val + 1 * 0 = a.val; omega
    | ⟨1, _⟩ => show 0 + 1 * r.val = r.val; omega
    | ⟨2, _⟩ => show 0 + 1 * l.val = l.val; omega))

theorem ld_subs (x : Vec Ideal S4x8x1024 .f32) (a : Fin 4) (s : Fin 8) (q : Fin 1024) : View.ld x r3c (ix3 a s q) = x (ix3 a s q) :=
  congrArg x (funext fun d => Fin.ext (by
    match d with
    | ⟨0, _⟩ => show 0 + 1 * a.val = a.val; omega
    | ⟨1, _⟩ => show 0 + 1 * s.val = s.val; omega
    | ⟨2, _⟩ => show 0 + 1 * q.val = q.val; omega))

theorem lossOf_apply : lossOf (F := Ideal) (dacc y) (dacc2 y) (pacc y) (cacc y) (ix2 0 0) = (Loss.loss y : EReal) := by
  have hC : ∀ (a : Fin 4) (s : Fin 8) (q : Fin 1024), View.ld (show Vec Ideal S4x8x1024 .f32 from cacc y) r3c (ix3 a s q) = (triSubs y a s q : EReal) :=
    fun a s q => ld_subs (cacc y) a s q
  have hd : ∀ (a : ℕ) (ha : a < 4) (off : Fin 2 → ℕ) (inb : ∀ d, off d + S1024x128.size d ≤ S4096x128.size d) (hoff : off = ![1024 * a, 0]) (r : Fin 1024) (l : Fin 128),
      View.ld (show Vec Ideal S4096x128 .f32 from dacc y) (Rect.unit (s := S4096x128) off S1024x128.size inb) (ix2 r l : S1024x128.Idx) = (rowLanes y a r l : EReal) :=
    fun a ha off inb hoff r l => ld_rows (dacc y) off _ inb hoff r l (by omega)
  have hp : ∀ (a : ℕ) (ha : a < 4) (off : Fin 2 → ℕ) (inb : ∀ d, off d + S1024x128.size d ≤ S4096x128.size d) (hoff : off = ![1024 * a, 0]) (r : Fin 1024) (l : Fin 128),
      View.ld (show Vec Ideal S4096x128 .f32 from pacc y) (Rect.unit (s := S4096x128) off S1024x128.size inb) (ix2 r l : S1024x128.Idx) = (posLanes y a r l : EReal) :=
    fun a ha off inb hoff r l => ld_rows (pacc y) off _ inb hoff r l (by omega)
  have he : ∀ (a : Fin 4) (off : Fin 3 → ℕ) (inb : ∀ d, off d + S1x1024x128.size d ≤ S4x1024x128.size d) (hoff : off = ![a.val, 0, 0]) (r : Fin 1024) (l : Fin 128),
      View.ld (show Vec Ideal S4x1024x128 .f32 from dacc2 y) (Rect.unit (s := S4x1024x128) off S1x1024x128.size inb) (ix3 0 r l : S1x1024x128.Idx) = (triLanes y a r l : EReal) :=
    fun a off inb hoff r l => ld_slab (dacc2 y) off a inb hoff r l
  unfold lossOf
  refine (k3_pay1_apply (triSubs y) _ hC (rowLanes y 3) (triLanes y 3) (posLanes y 3) _ (hd 3 (by norm_num) _ _ rfl) _ (he 3 _ _ rfl) _ (hp 3 (by norm_num) _ _ rfl)
    (fun r hr => blockDen_pos y 3 r (by norm_num) hr) _ _
    (k3_pay5_apply (triSubs y) _ hC (rowLanes y 2) (triLanes y 2) (posLanes y 2) _ (hd 2 (by norm_num) _ _ rfl) _ (he 2 _ _ rfl) _ (hp 2 (by norm_num) _ _ rfl)
      (fun r hr => blockDen_pos y 2 r (by norm_num) hr) _ _
      (k3_pay3_apply (triSubs y) _ hC (rowLanes y 0) (triLanes y 0) (posLanes y 0) _ (hd 0 (by norm_num) _ _ rfl) _ (he 0 _ _ rfl) _ (hp 0 (by norm_num) _ _ rfl)
        (fun r hr => blockDen_pos y 0 r (by norm_num) hr))
      (blockDen (triSubs y) (rowLanes y 1) (triLanes y 1) 1) (posLanes y 1) _ (k3_pay4_apply (triSubs y) _ hC (rowLanes y 1) (triLanes y 1) _ (hd 1 (by norm_num) _ _ rfl) _ (he 1 _ _ rfl))
      (fun r hr => blockDen_pos y 1 r (by norm_num) hr) _ (hp 1 (by norm_num) _ _ rfl))).trans ?_
  exact congrArg (fun u : ℝ => (u : EReal)) (total y)

variable (V : (c : Dev nD) → (b : Ref sig .tc) → Buf (Elt Ideal) ((c : Thread nD τ).loc b))

section

variable (c : Dev nD) (h0 : V c main_v1_0 = dacc y) (h1 : V c main_v2_0 = dacc2 y) (h2 : V c main_v1_1 = pacc y) (h3 : V c main_v2_1 = cacc y)

theorem idx3 : ∀ t : Fin cfg3.N, win3_0.index t = ![0, 0] ∧ win3_1.index t = ![0, 0, 0] ∧ win3_2.index t = ![0, 0] ∧ win3_3.index t = ![0, 0, 0]
    ∧ win3_4.index t = ![0, 0] := (by decide +kernel : ∀ t : Fin grid3.N, _)

include h0 in
theorem block3_0 (t : Fin cfg3.N) : iblk3 V c 0 t = dacc y := by
  rw [← h0]; blk_ext! [iblk3, idx3 t]
include h1 in
theorem block3_1 (t : Fin cfg3.N) : iblk3 V c 1 t = dacc2 y := by
  rw [← h1]; blk_ext! [iblk3, idx3 t]
include h2 in
theorem block3_2 (t : Fin cfg3.N) : iblk3 V c 2 t = pacc y := by
  rw [← h2]; blk_ext! [iblk3, idx3 t]
include h3 in
theorem block3_3 (t : Fin cfg3.N) : iblk3 V c 3 t = cacc y := by
  rw [← h3]; blk_ext! [iblk3, idx3 t]

include h0 h1 h2 h3 in
theorem final3 : (dat3 V c).arrAt 4 cfg3.N = (show FVec Ideal S1x1 .f32 from fun _ => (Loss.loss y : EReal)) := by
  refine (dat3 V c).arrAt_eq_of_covers 4 _ (by decide +kernel) fun t hf z => ?_
  blk_simp
  rw [after3_4, block3_0 y V c h0, block3_1 y V c h1, block3_2 y V c h2, block3_3 y V c h3]
  idx_vars z
  unfold out3
  frame_out
  have e0 : z0 = 0 := Subsingleton.elim (α := Fin 1) _ _
  have e1 : z1 = 0 := Subsingleton.elim (α := Fin 1) _ _
  subst e0 e1
  exact lossOf_apply y

end

end Cert.KernelIdeal.Val

end
-- ==== Proof.Val.Gather.lean ====
/- A gather of single cells of a matrix: each result element is the cell at the row and column its pair of index words
   names, when both are within the matrix. -/
module

public import proofs.«01_k».proof.Proof.Gen.ReferenceIdeal
public import Idealize.ShloMosaic.Lib.Pointwise

@[expose] public section

noncomputable section

namespace Cert.Cells

open Idealize.ShloMosaic

variable {α : Type}

/-- The dimension numbers of `x[rows, cols]` for a matrix and two index vectors of one length. -/
abbrev cellDims (N C B : Nat) (wf : GatherDims.WF ⟨2, ![N, C]⟩ ⟨2, ![B, 2]⟩ ⟨1, ![B]⟩ [] [0, 1] [] [0, 1] [] 1 ![1, 1]) :
    GatherDims ⟨2, ![N, C]⟩ ⟨2, ![B, 2]⟩ ⟨1, ![B]⟩ where
  offsetDims := []
  collapsedSliceDims := [0, 1]
  operandBatchingDims := []
  startIndicesBatchingDims := []
  startIndexMap := [0, 1]
  indexVectorDim := 1
  sliceSizes := ![1, 1]
  wf := wf

theorem gather_cell {N C B w : Nat} (wf : GatherDims.WF ⟨2, ![N, C]⟩ ⟨2, ![B, 2]⟩ ⟨1, ![B]⟩ [] [0, 1] [] [0, 1] [] 1 ![1, 1])
    (x : (⟨2, ![N, C]⟩ : Shape).Idx → α) (idx : IVec ⟨2, ![B, 2]⟩ w) (b : Fin B) (r : Fin N) (q : Fin C)
    (hr : (idx (ix2 b (0 : Fin 2))).toInt.toNat = r.val) (hq : (idx (ix2 b (1 : Fin 2))).toInt.toNat = q.val) :
    Host.gather (cellDims N C B wf) x idx (ix1 b) = x (ix2 r q) := by
  unfold Host.gather
  congr 1
  funext a
  refine Fin.ext ?_
  show (cellDims N C B wf).start (ix1 b) idx a + (cellDims N C B wf).batchCoord (ix1 b) a + (cellDims N C B wf).offCoord (ix1 b) a = _
  have hm : a ∈ ([0, 1] : List (Fin 2)) := by fin_cases a <;> simp
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos (show a ∈ (cellDims N C B wf).startIndexMap from hm)]
  have hsi : (cellDims N C B wf).siIdx (ix1 b) ⟨List.idxOf a (cellDims N C B wf).startIndexMap, List.idxOf_lt_length_iff.2 hm⟩
      = ix2 b a := by
    funext c
    refine Fin.ext ?_
    match c with
    | ⟨0, _⟩ => rfl
    | ⟨1, _⟩ => fin_cases a <;> rfl
  rw [hsi]
  fin_cases a
  · show min (idx (ix2 b (0 : Fin 2))).toInt.toNat (N - 1) = r.val
    rw [hr]; have := r.isLt; omega
  · show min (idx (ix2 b (1 : Fin 2))).toInt.toNat (C - 1) = q.val
    rw [hq]; have := q.isLt; omega

end Cert.Cells

end
-- ==== Proof.Val.Ref.lean ====
/- The reference's loss, read over extended reals: its composed host term is the real loss of its argument. -/
module

public import proofs.«01_k».proof.Proof.Gen.ReferenceIdeal.Run
public import proofs.«01_k».proof.Proof.Val.Loss
public import proofs.«01_k».proof.Proof.Val.Gather
public import Idealize.ShloMosaic.Lib.Pointwise
public import Idealize.ShloMosaic.Lib.Routing.OpsPair

@[expose] public section

set_option maxRecDepth 16384

noncomputable section

namespace Cert.ReferenceIdeal.Val

open Cert.ReferenceIdeal Cert.ReferenceIdeal.Gen Idealize.ShloMosaic

/-- The argument as rows of extended reals. -/
def rows (x : FVec Ideal S8192x2048 .f32) : Fin 8192 → Fin 2048 → EReal := fun i k => x (ix2 i k)

/-- The rows over their norms. -/
def scaled (x : FVec Ideal S8192x2048 .f32) : FVec Ideal S8192x2048 .f32 :=
  Host.divf x (broadcastInDim S8192x2048 ![0, 1] bcast_S8192x1_S8192x2048_0_1 (maximumf (Host.sqrt (broadcastInDim S8192x1 ![0] bcast_S8192_S8192x1_0 (Host.reduceAdd (mulf x x) (constant S_ .f32 0x00000000#32) reducesTo_S8192x2048_S8192_d1 h_S_))) (broadcastInDim S8192x1 ![] bcast_S_S8192x1 (constant S_ .f32 0x322BCC77#32))))

theorem scaled_apply (x : FVec Ideal S8192x2048 .f32) (i : Fin 8192) (k : Fin 2048) :
    scaled x (ix2 i k) = (Loss.y (rows x) i k : EReal) := by
  rw [← Loss.y_div]
  pointwise [scaled]
  rfl

/-- The exponentials of the similarities over the temperature. -/
def exps (x : FVec Ideal S8192x2048 .f32) : FVec Ideal S8192x8192 .f32 :=
  Host.exp (Host.divf (Host.dotGeneral dot_S8192x2048_S2048x8192_S8192x8192_1_0_0_1_n_n none (scaled x) (transpose S2048x8192 [1, 0] (scaled x) transposes_S8192x2048_S2048x8192_1_0)) (broadcastInDim S8192x8192 ![] bcast_S_S8192x8192 (constant S_ .f32 0x3DCCCCCD#32)))

theorem exps_apply (x : FVec Ideal S8192x2048 .f32) (i j : Fin 8192) :
    exps x (ix2 i j) = (Loss.E (Loss.y (rows x)) i j : EReal) := by
  pointwise [exps]
  simp only [scaled_apply, Loss.ofBits_T, ← EReal.coe_mul]
  rw [← Loss.coe_sum, Ideal.div_coe Loss.T_pos.ne', ← EReal.coe_mul, Ideal.exp_coe, mul_one_div, Loss.E, Loss.sim]

/-- Index words for the diagonal: every row with itself. -/
def every : IVec S8192x2 32 :=
  concatenate S8192x2 1 [⟨S8192x1, (broadcastInDim S8192x1 ![0] bcast_S8192_S8192x1_0 (select (cmpi .slt (iotaInDim S8192 32 0) (broadcastInDim S8192 ![] bcast_S_S8192 (constantI S_ 32 0#32))) (addi (iotaInDim S8192 32 0) (broadcastInDim S8192 ![] bcast_S_S8192 (constantI S_ 32 8192#32))) (iotaInDim S8192 32 0)))⟩, ⟨S8192x1, (broadcastInDim S8192x1 ![0] bcast_S8192_S8192x1_0 (select (cmpi .slt (iotaInDim S8192 32 0) (broadcastInDim S8192 ![] bcast_S_S8192 (constantI S_ 32 0#32))) (addi (iotaInDim S8192 32 0) (broadcastInDim S8192 ![] bcast_S_S8192 (constantI S_ 32 8192#32))) (iotaInDim S8192 32 0)))⟩] concatenates_S8192x1_S8192x1_S8192x2_d1

/-- Index words for the pairs: row `i` with row `i + 4096`. -/
def pairs : IVec S4096x2 32 :=
  concatenate S4096x2 1 [⟨S4096x1, (broadcastInDim S4096x1 ![0] bcast_S4096_S4096x1_0 (select (cmpi .slt (iotaInDim S4096 32 0) (broadcastInDim S4096 ![] bcast_S_S4096 (constantI S_ 32 0#32))) (addi (iotaInDim S4096 32 0) (broadcastInDim S4096 ![] bcast_S_S4096 (constantI S_ 32 8192#32))) (iotaInDim S4096 32 0)))⟩, ⟨S4096x1, (broadcastInDim S4096x1 ![0] bcast_S4096_S4096x1_0 (select (cmpi .slt (addi (iotaInDim S4096 32 0) (broadcastInDim S4096 ![] bcast_S_S4096 (constantI S_ 32 4096#32))) (broadcastInDim S4096 ![] bcast_S_S4096 (constantI S_ 32 0#32))) (addi (addi (iotaInDim S4096 32 0) (broadcastInDim S4096 ![] bcast_S_S4096 (constantI S_ 32 4096#32))) (broadcastInDim S4096 ![] bcast_S_S4096 (constantI S_ 32 8192#32))) (addi (iotaInDim S4096 32 0) (broadcastInDim S4096 ![] bcast_S_S4096 (constantI S_ 32 4096#32)))))⟩] concatenates_S4096x1_S4096x1_S4096x2_d1

/-- A word below 8192 is not negative, so it is not wrapped. -/
theorem unwrapped (a : BitVec 32) (n : ℕ) (h : n < 8192) : Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; omega)

theorem word (n : ℕ) (h : n < 8192) : (BitVec.ofNat 32 n).toInt.toNat = n := by
  rw [BitVec.toInt_eq_toNat_of_lt (by rw [BitVec.toNat_ofNat, Nat.mod_eq_of_lt (by omega)]; omega), BitVec.toNat_ofNat,
    Nat.mod_eq_of_lt (by omega), Int.toNat_natCast]

theorem every_0 (i : Fin 8192) : every (ix2 i (0 : Fin 2)) = BitVec.ofNat 32 i := by
  pointwise [every]
  exact unwrapped _ i (by omega)

theorem every_1 (i : Fin 8192) : every (ix2 i (1 : Fin 2)) = BitVec.ofNat 32 i := by
  pointwise [every]
  exact unwrapped _ i (by omega)

theorem pairs_0 (i : Fin 4096) : pairs (ix2 i (0 : Fin 2)) = BitVec.ofNat 32 i := by
  pointwise [pairs]
  exact unwrapped _ i (by omega)

theorem pairs_1 (i : Fin 4096) : pairs (ix2 i (1 : Fin 2)) = BitVec.ofNat 32 (i + 4096) := by
  pointwise [pairs]
  rw [show IntOp.addi (BitVec.ofNat 32 i.val) 4096#32 = BitVec.ofNat 32 (i.val + 4096) from (BitVec.ofNat_add ..).symm]
  exact unwrapped _ _ (by omega)

/-- The diagonal of the exponentials. -/
def diagonal (x : FVec Ideal S8192x2048 .f32) : FVec Ideal S8192 .f32 :=
  Host.gather gather_S8192x8192_S8192x2_S8192_n_01_n_n_01_1_11 (exps x) every

/-- The exponentials of the pairs. -/
def upper (x : FVec Ideal S8192x2048 .f32) : FVec Ideal S4096 .f32 :=
  Host.gather gather_S8192x8192_S4096x2_S4096_n_01_n_n_01_1_11 (exps x) pairs

theorem diagonal_apply (x : FVec Ideal S8192x2048 .f32) (i : Fin 8192) :
    diagonal x (ix1 i) = (Loss.E (Loss.y (rows x)) i i : EReal) :=
  (Cells.gather_cell _ (exps x) every i i i (by rw [every_0]; exact word i i.isLt) (by rw [every_1]; exact word i i.isLt)).trans
    (exps_apply x i i)

theorem upper_apply (x : FVec Ideal S8192x2048 .f32) (i : Fin 4096) :
    upper x (ix1 i) = (Loss.E (Loss.y (rows x)) i (i + 4096) : EReal) :=
  (Cells.gather_cell _ (exps x) pairs i ⟨i, by omega⟩ ⟨i + 4096, by omega⟩ (by rw [pairs_0]; exact word i (by omega))
    (by rw [pairs_1]; exact word (i + 4096) (by omega))).trans (exps_apply x ⟨i, by omega⟩ ⟨i + 4096, by omega⟩)

/-- The row sums of the exponentials less the diagonal. -/
def denoms (x : FVec Ideal S8192x2048 .f32) : FVec Ideal S8192 .f32 :=
  subf (Host.reduceAdd (exps x) (constant S_ .f32 0x00000000#32) reducesTo_S8192x8192_S8192_d1 h_S_) (diagonal x)

theorem denoms_apply (x : FVec Ideal S8192x2048 .f32) (i : Fin 8192) :
    denoms x (ix1 i) = (Loss.denom (Loss.y (rows x)) i : EReal) := by
  pointwise [denoms]
  simp only [diagonal_apply, exps_apply]
  rw [← Loss.coe_sum, Loss.denom_eq _ i.isLt, EReal.coe_sub, Fin.sum_univ_eq_sum_range (fun j => Loss.E (Loss.y (rows x)) i j) 8192]

/-- The loss term by term, then summed and divided. -/
def lossTerm (x : FVec Ideal S8192x2048 .f32) : FVec Ideal S_ .f32 :=
  Host.divf (Host.reduceAdd (Host.negf (Host.log (Host.divf (upper x) (extractStridedSlice S4096 ![0] (denoms x) slices_S8192_S4096_0)))) (constant S_ .f32 0x00000000#32) reducesTo_S4096_S_d0 h_S_) (constant S_ .f32 0x46000000#32)

theorem term (y : ℕ → Fin 2048 → ℝ) (i : ℕ) :
    -(Ideal.log (Ideal.div (Loss.E y i (i + 4096) : EReal) (Loss.denom y i : EReal)))
      = ((Real.log (Loss.denom y i) - Loss.sim y i (i + 4096) / Loss.T : ℝ) : EReal) := by
  have hd := Loss.denom_pos y i
  rw [Ideal.div_coe hd.ne', ← EReal.coe_mul, Ideal.log_coe, if_neg (not_le.2 (mul_pos (Loss.E_pos y _ _) (one_div_pos.2 hd))), ← EReal.coe_neg,
    ← div_eq_mul_one_div, Real.log_div (Loss.E_pos y _ _).ne' hd.ne', Loss.E, Real.log_exp]
  congr 1
  ring

theorem lossTerm_apply (x : FVec Ideal S8192x2048 .f32) (p : S_.Idx) :
    lossTerm x p = (Loss.loss (Loss.y (rows x)) : EReal) := by
  obtain rfl : p = ix0 := Subsingleton.elim _ _
  pointwise [lossTerm]
  simp only [upper_apply, denoms_apply, term]
  rw [← Loss.coe_sum, Loss.ofBits_8192, Ideal.div_coe (by norm_num), ← EReal.coe_mul, Loss.loss,
    Fin.sum_univ_eq_sum_range (fun i => Real.log (Loss.denom (Loss.y (rows x)) i) - Loss.sim (Loss.y (rows x)) i (i + 4096) / Loss.T) 4096]

theorem result_eq (m : (ℓ : Loc nD τ sig) → Buf (Elt Ideal) ℓ) (c : Dev nD) :
    Value.res_out0 m c = lossTerm (m ((c.tc : Thread nD τ).loc main_arg0)) := rfl

end Cert.ReferenceIdeal.Val

end
-- ==== Proof.Val.Final.lean ====
/- The kernel's result and the reference's are one: each is the loss of the argument's rows. -/
module

public import proofs.«01_k».proof.Defs
public import proofs.«01_k».proof.Proof.KI.Run
public import proofs.«01_k».proof.Proof.Val.Arr3
public import proofs.«01_k».proof.Proof.Val.Ref

@[expose] public section

set_option maxRecDepth 16384

noncomputable section

namespace Cert.KernelIdeal.Val

open Cert.KernelIdeal Cert.KernelIdeal.Gen Cert.KernelIdeal.Hand Idealize.ShloMosaic Idealize.ShloMosaic.TcCoe Idealize.SL.Sem

variable (m : (ℓ : Loc nD τ sig) → Buf (Elt Ideal) ℓ) (ρ : Dev nD → PrngReg) (c : Dev nD)

/-- The argument's rows over their norms. -/
def unit : ℕ → Fin 2048 → ℝ := Loss.y (rows (m ((c : Thread nD τ).loc main_arg0)))

theorem at1 : V1 m ρ c main_v0 = columns (unit m c) := (arr1 m ρ c 1).trans (final0 (V0 m ρ) c)

theorem at2 : V2 m ρ c main_v0 = columns (unit m c) := (kept2 m ρ c main_v0 (by decide +kernel)).trans (at1 m ρ c)

theorem at2_0 : V2 m ρ c main_v1_0 = dacc (unit m c) := (arr2 m ρ c 2).trans (final1_2 (V1 m ρ) (unit m c) c (at1 m ρ c))
theorem at2_1 : V2 m ρ c main_v1_1 = pacc (unit m c) := (arr2 m ρ c 3).trans (final1_3 (V1 m ρ) (unit m c) c (at1 m ρ c))

theorem at3_0 : V3 m ρ c main_v1_0 = dacc (unit m c) := (kept3 m ρ c main_v1_0 (by decide +kernel)).trans (at2_0 m ρ c)
theorem at3_1 : V3 m ρ c main_v1_1 = pacc (unit m c) := (kept3 m ρ c main_v1_1 (by decide +kernel)).trans (at2_1 m ρ c)
theorem at3_2 : V3 m ρ c main_v2_0 = dacc2 (unit m c) := (arr3 m ρ c 2).trans (final2_2 (V2 m ρ) (unit m c) c (at2 m ρ c))
theorem at3_3 : V3 m ρ c main_v2_1 = cacc (unit m c) := (arr3 m ρ c 3).trans (final2_3 (V2 m ρ) (unit m c) c (at2 m ρ c))

theorem at4 : V4 m ρ c main_v3 = (show FVec Ideal S1x1 .f32 from fun _ => (Loss.loss (unit m c) : EReal)) :=
  (arr4 m ρ c 4).trans (final3 (unit m c) (V3 m ρ) c (at3_0 m ρ c) (at3_2 m ρ c) (at3_1 m ρ c) (at3_3 m ρ c))

/-- The kernel returns the loss. -/
theorem result : W5 m ρ c (Proc.devRef .tc main_v4) = (show FVec Ideal S_ .f32 from fun _ => (Loss.loss (unit m c) : EReal)) := by
  have h : W5 m ρ c (Proc.devRef .tc main_v4) = shapeCast S_ (show FVec Ideal S1x1 .f32 from V4 m ρ c main_v3) shapeCasts_S1x1_S_ := by
    show StableHlo.after hostOps4 (W4 m ρ c) (Proc.devRef .tc main_v4) = _
    after_results_simp
    rfl
  rw [h, at4]
  rfl

end Cert.KernelIdeal.Val

namespace Cert.Ends

open Idealize.ShloMosaic Idealize.ShloMosaic.TcCoe Idealize.SL.Sem

/-- The reference returns the same loss. -/
theorem same (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Value.res_out0 m' c = Cert.KernelIdeal.Hand.W5 m ρ c (Proc.devRef .tc Cert.KernelIdeal.main_v4) := by
  refine Eq.trans ?_ (Cert.KernelIdeal.Val.result m ρ c).symm
  rw [Cert.ReferenceIdeal.Val.result_eq, h]
  funext p
  exact Cert.ReferenceIdeal.Val.lossTerm_apply _ p

/-- Over extended reals the kernel and the reference return the same value of the same argument. -/
theorem values : Cert.algebraic_KernelIdeal_ReferenceIdeal := by
  intro m ρ m' ρ' _ hagree
  refine ⟨fun c => Cert.KernelIdeal.Hand.W5 m ρ c (Proc.devRef .tc Cert.KernelIdeal.main_v4),
    (θ_run Cert.KernelIdeal.defs _ _).mono (fun _ h c => h.1 c) (Cert.KernelIdeal.Hand.run m ρ), ?_⟩
  exact (θ_run Cert.ReferenceIdeal.defs _ _).mono (fun _ h c => ⟨(h c).1.trans (same m ρ m' c (hagree c)), (h c).2⟩) (Cert.ReferenceIdeal.Value.run m' ρ')

end Cert.Ends

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Val.Final
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ends.kernel, Cert.Ends.kernelIdeal, Cert.Ends.reference, Cert.Ends.names, Cert.Ends.values⟩

end Cert.Proof

end
